-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S_ : Shape := ⟨0, ![]⟩

class Facts : Prop where
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  h_S_ : 0 < S_.numel
  bcast_S_S2x16384x8x32 : S_.BroadcastsInDim S2x16384x8x32 (![] : Fin 0 → Fin S2x16384x8x32.rank)
  reducesTo_S2x16384x8x32_S_d0_1_2_3 : S2x16384x8x32.ReducesTo [0, 1, 2, 3] S_
  bcast_S_S2x16384x32 : S_.BroadcastsInDim S2x16384x32 (![] : Fin 0 → Fin S2x16384x32.rank)
  reducesTo_S2x16384x32_S_d0_1_2 : S2x16384x32.ReducesTo [0, 1, 2] S_

variable [Facts]

def fn_part1 {F : FTy → Type} [FloatOps F] (main_arg2 : FVec F S2x16384x8x64 .f32) (main_arg3 : FVec F S2x16384x32 .f32) (main_v13 : IVec S_ 1) (main_v15 : IVec S2x16384x8x64 1) : IVec S_ 1 :=
  let main_cst_6 : FVec F S_ .f32 := constant S_ .f32 0x7F800000#32
  let main_v16 : FVec F S2x16384x8x64 .f32 := broadcastInDim S2x16384x8x64 ![] bcast_S_S2x16384x8x64 main_cst_6
  let main_v17 : IVec S2x16384x8x64 1 := cmpf .olt main_arg2 main_v16
  let main_v18 : IVec S2x16384x8x64 1 := andi main_v15 main_v17
  let main_c_7 : IVec S_ 1 := constantI S_ 1 1#1
  let main_v19 : IVec S_ 1 := (fun x v => Host.reduce IntOp.andi x v reducesTo_S2x16384x8x64_S_d0_1_2_3 h_S_) main_v18 main_c_7
  let main_v20 : IVec S_ 1 := andi main_v13 main_v19
  let main_cst_8 : FVec F S_ .f32 := constant S_ .f32 0xFF800000#32
  let main_v21 : FVec F S2x16384x32 .f32 := broadcastInDim S2x16384x32 ![] bcast_S_S2x16384x32 main_cst_8
  let main_v22 : IVec S2x16384x32 1 := cmpf .ogt main_arg3 main_v21
  let main_cst_9 : FVec F S_ .f32 := constant S_ .f32 0x7F800000#32
  let main_v23 : FVec F S2x16384x32 .f32 := broadcastInDim S2x16384x32 ![] bcast_S_S2x16384x32 main_cst_9
  let main_v24 : IVec S2x16384x32 1 := cmpf .olt main_arg3 main_v23
  let main_v25 : IVec S2x16384x32 1 := andi main_v22 main_v24
  let main_c_10 : IVec S_ 1 := constantI S_ 1 1#1
  let main_v26 : IVec S_ 1 := (fun x v => Host.reduce IntOp.andi x v reducesTo_S2x16384x32_S_d0_1_2 h_S_) main_v25 main_c_10
  let main_v27 : IVec S_ 1 := andi main_v20 main_v26
  main_v27

def fn {F : FTy → Type} [FloatOps F] (main_arg0 : FVec F S2x16384x8x64 .f32) (main_arg1 : FVec F S2x16384x8x32 .f32) (main_arg2 : FVec F S2x16384x8x64 .f32) (main_arg3 : FVec F S2x16384x32 .f32) (main_arg4 : FVec F S2x16384x8x64 .f32) : IVec S_ 1 :=
  let main_cst : FVec F S_ .f32 := constant S_ .f32 0xFF800000#32
  let main_v0 : FVec F S2x16384x8x64 .f32 := broadcastInDim S2x16384x8x64 ![] bcast_S_S2x16384x8x64 main_cst
  let main_v1 : IVec S2x16384x8x64 1 := cmpf .ogt main_arg0 main_v0
  let main_cst_0 : FVec F S_ .f32 := constant S_ .f32 0x7F800000#32
  let main_v2 : FVec F S2x16384x8x64 .f32 := broadcastInDim S2x16384x8x64 ![] bcast_S_S2x16384x8x64 main_cst_0
  let main_v3 : IVec S2x16384x8x64 1 := cmpf .olt main_arg0 main_v2
  let main_v4 : IVec S2x16384x8x64 1 := andi main_v1 main_v3
  let main_c : IVec S_ 1 := constantI S_ 1 1#1
  let main_v5 : IVec S_ 1 := (fun x v => Host.reduce IntOp.andi x v reducesTo_S2x16384x8x64_S_d0_1_2_3 h_S_) main_v4 main_c
  let main_c_1 : IVec S_ 1 := constantI S_ 1 1#1
  let main_v6 : IVec S_ 1 := andi main_c_1 main_v5
  let main_cst_2 : FVec F S_ .f32 := constant S_ .f32 0xFF800000#32
  let main_v7 : FVec F S2x16384x8x32 .f32 := broadcastInDim S2x16384x8x32 ![] bcast_S_S2x16384x8x32 main_cst_2
  let main_v8 : IVec S2x16384x8x32 1 := cmpf .ogt main_arg1 main_v7
  let main_cst_3 : FVec F S_ .f32 := constant S_ .f32 0x7F800000#32
  let main_v9 : FVec F S2x16384x8x32 .f32 := broadcastInDim S2x16384x8x32 ![] bcast_S_S2x16384x8x32 main_cst_3
  let main_v10 : IVec S2x16384x8x32 1 := cmpf .olt main_arg1 main_v9
  let main_v11 : IVec S2x16384x8x32 1 := andi main_v8 main_v10
  let main_c_4 : IVec S_ 1 := constantI S_ 1 1#1
  let main_v12 : IVec S_ 1 := (fun x v => Host.reduce IntOp.andi x v reducesTo_S2x16384x8x32_S_d0_1_2_3 h_S_) main_v11 main_c_4
  let main_v13 : IVec S_ 1 := andi main_v6 main_v12
  let main_cst_5 : FVec F S_ .f32 := constant S_ .f32 0xFF800000#32
  let main_v14 : FVec F S2x16384x8x64 .f32 := broadcastInDim S2x16384x8x64 ![] bcast_S_S2x16384x8x64 main_cst_5
  let main_v15 : IVec S2x16384x8x64 1 := cmpf .ogt main_arg2 main_v14
  fn_part1 (F := F) main_arg2 main_arg3 main_v13 main_v15
-- ==== Kernel.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S2x16384x8x96 : Shape := ⟨4, ![2, 16384, 8, 96]⟩
abbrev S_ : Shape := ⟨0, ![]⟩
abbrev S2x16384x768 : Shape := ⟨3, ![2, 16384, 768]⟩
abbrev S2x768x16384 : Shape := ⟨3, ![2, 768, 16384]⟩
abbrev S2x16384x1x32 : Shape := ⟨4, ![2, 16384, 1, 32]⟩
abbrev S2x8x16384x96 : Shape := ⟨4, ![2, 8, 16384, 96]⟩
abbrev S2x16384x512 : Shape := ⟨3, ![2, 16384, 512]⟩
abbrev S2x512x16384 : Shape := ⟨3, ![2, 512, 16384]⟩
abbrev S1x768x256 : Shape := ⟨3, ![1, 768, 256]⟩
abbrev S1x8x512x96 : Shape := ⟨4, ![1, 8, 512, 96]⟩
abbrev S1x512x512 : Shape := ⟨3, ![1, 512, 512]⟩
abbrev S1x512x256 : Shape := ⟨3, ![1, 512, 256]⟩
abbrev S8x256 : Shape := ⟨2, ![8, 256]⟩
abbrev S512x256 : Shape := ⟨2, ![512, 256]⟩
abbrev S1x1x512x96 : Shape := ⟨4, ![1, 1, 512, 96]⟩
abbrev S512x96 : Shape := ⟨2, ![512, 96]⟩
abbrev S1x96x256 : Shape := ⟨3, ![1, 96, 256]⟩
abbrev S96x256 : Shape := ⟨2, ![96, 256]⟩
abbrev S1x256 : Shape := ⟨2, ![1, 256]⟩
abbrev S256 : Shape := ⟨1, ![256]⟩
abbrev S1x64x512 : Shape := ⟨3, ![1, 64, 512]⟩
abbrev S64x512 : Shape := ⟨2, ![64, 512]⟩
abbrev S64x256 : Shape := ⟨2, ![64, 256]⟩
abbrev S1x64x256 : Shape := ⟨3, ![1, 64, 256]⟩

abbrev nBuf : Space → Nat
  | .hbm => 21
  | .vmem => 11
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x32, .f32⟩
  | .hbm, ⟨2, _⟩ => ⟨S2x16384x8x64, .f32⟩
  | .hbm, ⟨3, _⟩ => ⟨S2x16384x32, .f32⟩
  | .hbm, ⟨4, _⟩ => ⟨S2x16384x8x64, .f32⟩
  | .hbm, ⟨5, _⟩ => ⟨S2x16384x8x96, .f32⟩
  | .hbm, ⟨6, _⟩ => ⟨S_, .f32⟩
  | .hbm, ⟨7, _⟩ => ⟨S2x16384x8x96, .f32⟩
  | .hbm, ⟨8, _⟩ => ⟨S2x16384x8x96, .f32⟩
  | .hbm, ⟨9, _⟩ => ⟨S2x16384x8x96, .bf16⟩
  | .hbm, ⟨10, _⟩ => ⟨S2x16384x768, .bf16⟩
  | .hbm, ⟨11, _⟩ => ⟨S2x768x16384, .bf16⟩
  | .hbm, ⟨12, _⟩ => ⟨S2x16384x1x32, .f32⟩
  | .hbm, ⟨13, _⟩ => ⟨S2x16384x8x32, .f32⟩
  | .hbm, ⟨14, _⟩ => ⟨S2x16384x8x96, .f32⟩
  | .hbm, ⟨15, _⟩ => ⟨S2x16384x8x96, .bf16⟩
  | .hbm, ⟨16, _⟩ => ⟨S2x8x16384x96, .bf16⟩
  | .hbm, ⟨17, _⟩ => ⟨S2x16384x8x64, .bf16⟩
  | .hbm, ⟨18, _⟩ => ⟨S2x16384x512, .bf16⟩
  | .hbm, ⟨19, _⟩ => ⟨S2x512x16384, .bf16⟩
  | .hbm, ⟨20, _⟩ => ⟨S2x512x16384, .bf16⟩
  | .local _ .vmem, ⟨0, _⟩ => ⟨S1x768x256, .bf16⟩
  | .local _ .vmem, ⟨1, _⟩ => ⟨S1x768x256, .bf16⟩
  | .local _ .vmem, ⟨2, _⟩ => ⟨S1x8x512x96, .bf16⟩
  | .local _ .vmem, ⟨3, _⟩ => ⟨S1x8x512x96, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S8x256, .f32⟩
  | .local _ .vmem, ⟨9, _⟩ => ⟨S8x256, .f32⟩
  | .local _ .vmem, ⟨10, _⟩ => ⟨S512x256, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 64, 32], ![false, false, false]⟩

def k0_cond4 (i : grid0.Coords) : BitVec 1 :=
  let arg2 : BitVec 32 := BitVec.ofNat 32 (i 2).val
  let c31_i32 : BitVec 32 := 31#32
  let v36 : BitVec 1 := Scalar.cmpi .eq arg2 c31_i32
  let v37 : BitVec 32 := Scalar.extui v36
  let c0_i32_13 : BitVec 32 := 0#32
  let v38 : BitVec 1 := Scalar.cmpi .ne v37 c0_i32_13
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  let c0_i32_8 : BitVec 32 := 0#32
  ![arg0.toNat, c0_i32_6.toNat, v20.toNat, c0_i32_7.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, c0_i32_6.toNat, v20.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x512x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x16384x16384 : Shape := ⟨4, ![2, 8, 16384, 16384]⟩
abbrev S2x16384x16384x8 : Shape := ⟨4, ![2, 16384, 16384, 8]⟩
abbrev S_ : Shape := ⟨0, ![]⟩
abbrev S1x1x16384x16384 : Shape := ⟨4, ![1, 1, 16384, 16384]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩
abbrev S2x512x16384 : Shape := ⟨3, ![2, 512, 16384]⟩

abbrev nBuf : Space → Nat
  | .hbm => 43
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x32, .f32⟩
  | .hbm, ⟨2, _⟩ => ⟨S2x16384x8x64, .f32⟩
  | .hbm, ⟨3, _⟩ => ⟨S2x16384x32, .f32⟩
  | .hbm, ⟨4, _⟩ => ⟨S2x16384x8x64, .f32⟩
  | .hbm, ⟨5, _⟩ => ⟨S16384, .i32⟩
  | .hbm, ⟨6, _⟩ => ⟨S1x16384, .i32⟩
  | .hbm, ⟨7, _⟩ => ⟨S16384x1, .i32⟩
  | .hbm, ⟨8, _⟩ => ⟨S16384x16384, .i32⟩
  | .hbm, ⟨9, _⟩ => ⟨S16384x16384, .i32⟩
  | .hbm, ⟨10, _⟩ => ⟨S16384x16384, .i1⟩
  | .hbm, ⟨11, _⟩ => ⟨S2x8x16384x16384, .f32⟩
  | .hbm, ⟨12, _⟩ => ⟨S2x16384x16384x8, .f32⟩
  | .hbm, ⟨13, _⟩ => ⟨S2x8x16384x16384, .f32⟩
  | .hbm, ⟨14, _⟩ => ⟨S2x8x16384x16384, .f32⟩
  | .hbm, ⟨15, _⟩ => ⟨S_, .f32⟩
  | .hbm, ⟨16, _⟩ => ⟨S2x8x16384x16384, .f32⟩
  | .hbm, ⟨17, _⟩ => ⟨S2x8x16384x16384, .f32⟩
  | .hbm, ⟨18, _⟩ => ⟨S1x1x16384x16384, .i1⟩
  | .hbm, ⟨19, _⟩ => ⟨S_, .f32⟩
  | .hbm, ⟨20, _⟩ => ⟨S_, .f32⟩
  | .hbm, ⟨21, _⟩ => ⟨S2x8x16384x16384, .i1⟩
  | .hbm, ⟨22, _⟩ => ⟨S2x8x16384x16384, .f32⟩
  | .hbm, ⟨23, _⟩ => ⟨S2x8x16384x16384, .f32⟩
  | .hbm, ⟨24, _⟩ => ⟨S_, .f32⟩
  | .hbm, ⟨25, _⟩ => ⟨S2x8x16384, .f32⟩
  | .hbm, ⟨26, _⟩ => ⟨S_, .f32⟩
  | .hbm, ⟨27, _⟩ => ⟨S2x8x16384, .f32⟩
  | .hbm, ⟨28, _⟩ => ⟨S2x8x16384, .f32⟩
  | .hbm, ⟨29, _⟩ => ⟨S2x8x16384x1, .f32⟩
  | .hbm, ⟨30, _⟩ => ⟨S2x8x16384x16384, .f32⟩
  | .hbm, ⟨31, _⟩ => ⟨S2x8x16384x16384, .f32⟩
  | .hbm, ⟨32, _⟩ => ⟨S2x8x16384x16384, .f32⟩
  | .hbm, ⟨33, _⟩ => ⟨S_, .f32⟩
  | .hbm, ⟨34, _⟩ => ⟨S2x8x16384, .f32⟩
  | .hbm, ⟨35, _⟩ => ⟨S2x8x16384x1, .f32⟩
  | .hbm, ⟨36, _⟩ => ⟨S2x8x16384x16384, .f32⟩
  | .hbm, ⟨37, _⟩ => ⟨S2x8x16384x16384, .f32⟩
  | .hbm, ⟨38, _⟩ => ⟨S2x8x64x16384, .f32⟩
  | .hbm, ⟨39, _⟩ => ⟨S2x16384x8x64, .f32⟩
  | .hbm, ⟨40, _⟩ => ⟨S2x16384x512, .f32⟩
  | .hbm, ⟨41, _⟩ => ⟨S2x512x16384, .f32⟩
  | .hbm, ⟨42, _⟩ => ⟨S2x512x16384, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x1024 : Shape := ⟨2, ![2, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x1x1024 : Shape := ⟨3, ![2, 1, 1024]⟩
abbrev S1x5632 : Shape := ⟨2, ![1, 5632]⟩
abbrev S1x1024 : Shape := ⟨2, ![1, 1024]⟩
abbrev S1x256x1024 : Shape := ⟨3, ![1, 256, 1024]⟩
abbrev S1x1x1024 : Shape := ⟨3, ![1, 1, 1024]⟩
abbrev S8x5632 : Shape := ⟨2, ![8, 5632]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 19
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1024x5632, .bf16⟩
  | .hbm, ⟨14, _⟩ => ⟨S1x5632, .f32⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S1x256x1024, .f32⟩
  | .local _ .vmem, ⟨15, _⟩ => ⟨S1x256x1024, .f32⟩
  | .local _ .vmem, ⟨16, _⟩ => ⟨S8x5632, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x16384x1024 : Shape := ⟨3, ![2, 16384, 1024]⟩
abbrev S2x1024 : Shape := ⟨2, ![2, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x1x1024 : Shape := ⟨3, ![2, 1, 1024]⟩
abbrev S_ : Shape := ⟨0, ![]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x16384x2816 : Shape := ⟨3, ![2, 16384, 2816]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S2x1x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S2x16384x1024, .f32⟩
  | .hbm, ⟨15, _⟩ => ⟨S2x16384x1024, .f32⟩
  | .hbm, ⟨16, _⟩ => ⟨S2x1x1024, .f32⟩
  | .hbm, ⟨17, _⟩ => ⟨S2x16384x1024, .f32⟩
  | .hbm, ⟨18, _⟩ => ⟨S2x16384x1024, .f32⟩
  | .hbm, ⟨19, _⟩ => ⟨S2x16384x5632, .f32⟩
  | .hbm, ⟨20, _⟩ => ⟨S_, .i32⟩
  | .hbm, ⟨21, _⟩ => ⟨S_, .f32⟩
  | .hbm, ⟨22, _⟩ => ⟨S2x16386x5632, .f32⟩
  | .hbm, ⟨23, _⟩ => ⟨S2x16384x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S2x16384x5632, .f32⟩
  | .hbm, ⟨28, _⟩ => ⟨S2x16384x5632, .f32⟩
  | .hbm, ⟨29, _⟩ => ⟨S_, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S2x16384x5632, .f32⟩
  | .hbm, ⟨37, _⟩ => ⟨S2x16384x5632, .f32⟩
  | .hbm, ⟨38, _⟩ => ⟨S2x16384x5632, .f32⟩
  | .hbm, ⟨39, _⟩ => ⟨S2x16384x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S2x16384x5632, .f32⟩
  | .hbm, ⟨44, _⟩ => ⟨S2x16384x5632, .f32⟩
  | .hbm, ⟨45, _⟩ => ⟨S2x16384x5632, .f32⟩
  | .hbm, ⟨46, _⟩ => ⟨S1x1x5632, .f32⟩
  | .hbm, ⟨47, _⟩ => ⟨S2x16384x5632, .f32⟩
  | .hbm, ⟨48, _⟩ => ⟨S2x16384x5632, .f32⟩
  | .hbm, ⟨49, _⟩ => ⟨S2x16384x2816, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S_, .f32⟩
  | .hbm, ⟨54, _⟩ => ⟨S2x16384x2816, .f32⟩
  | .hbm, ⟨55, _⟩ => ⟨S2x16384x2816, .f32⟩
  | .hbm, ⟨56, _⟩ => ⟨S_, .f32⟩
  | .hbm, ⟨57, _⟩ => ⟨S2x16384x2816, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S2x16384x1024, .f32⟩
  | .hbm, ⟨62, _⟩ => ⟨S_, .f32⟩
  | .hbm, ⟨63, _⟩ => ⟨S2x16384x1024, .f32⟩
  | .hbm, ⟨64, _⟩ => ⟨S2x16384x1024, .f32⟩
  | .hbm, ⟨65, _⟩ => ⟨S2x1x1024, .f32⟩
  | .hbm, ⟨66, _⟩ => ⟨S2x16384x1024, .f32⟩
  | .hbm, ⟨67, _⟩ => ⟨S2x16384x1024, .f32⟩
  | .hbm, ⟨68, _⟩ => ⟨S2x16384x1024, .f32⟩
  | .hbm, ⟨69, _⟩ => ⟨S_, .f32⟩
  | .hbm, ⟨70, _⟩ => ⟨S2x16384, .f32⟩
  | .hbm, ⟨71, _⟩ => ⟨S2x16384x1, .f32⟩
  | .hbm, ⟨72, _⟩ => ⟨S_, .f32⟩
  | .hbm, ⟨73, _⟩ => ⟨S2x16384x1, .f32⟩
  | .hbm, ⟨74, _⟩ => ⟨S2x16384x1, .f32⟩
  | .hbm, ⟨75, _⟩ => ⟨S2x16384x1024, .f32⟩
  | .hbm, ⟨76, _⟩ => ⟨S2x16384x1024, .f32⟩
  | .hbm, ⟨77, _⟩ => ⟨S2x16384x1024, .f32⟩
  | .hbm, ⟨78, _⟩ => ⟨S_, .f32⟩
  | .hbm, ⟨79, _⟩ => ⟨S2x16384, .f32⟩
  | .hbm, ⟨80, _⟩ => ⟨S2x16384x1, .f32⟩
  | .hbm, ⟨81, _⟩ => ⟨S_, .f32⟩
  | .hbm, ⟨82, _⟩ => ⟨S2x16384x1, .f32⟩
  | .hbm, ⟨83, _⟩ => ⟨S2x16384x1, .f32⟩
  | .hbm, ⟨84, _⟩ => ⟨S2x16384x1024, .f32⟩
  | .hbm, ⟨85, _⟩ => ⟨S2x16384x1024, .f32⟩
  | .hbm, ⟨86, _⟩ => ⟨S_, .f32⟩
  | .hbm, ⟨87, _⟩ => ⟨S2x16384x1, .f32⟩
  | .hbm, ⟨88, _⟩ => ⟨S2x16384x1, .f32⟩
  | .hbm, ⟨89, _⟩ => ⟨S2x16384x1, .f32⟩
  | .hbm, ⟨90, _⟩ => ⟨S2x16384x1024, .f32⟩
  | .hbm, ⟨91, _⟩ => ⟨S2x16384x1024, .f32⟩
  | .hbm, ⟨92, _⟩ => ⟨S1x1x1024, .f32⟩
  | .hbm, ⟨93, _⟩ => ⟨S2x16384x1024, .f32⟩
  | .hbm, ⟨94, _⟩ => ⟨S2x16384x1024, .f32⟩
  | .hbm, ⟨95, _⟩ => ⟨S1x1x1024, .f32⟩
  | .hbm, ⟨96, _⟩ => ⟨S2x16384x1024, .f32⟩
  | .hbm, ⟨97, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_1 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_2 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Proof.Step.lean ====
/- One head's share of one key tile, as the kernel computes it: the scores, the new running maximum, the rescaling, the
   new running sum and accumulator, and the division at the end, each read at an index. -/
module

public import proofs.«01_k».proof.Proof.Gen.KernelIdeal.Skeleton
public import Idealize.ShloMosaic.Lib.ValueLayout
public import Idealize.ShloMosaic.Lib.ValueIdx
public import Idealize.ShloMosaic.PureOps.Ideal.Laws
public import Idealize.ShloMosaic.PureOps.IdealRules
public import Idealize.ShloMosaic.Lib.MatmulPlain

@[expose] public section

noncomputable section

namespace Cert.Attn

open Idealize.ShloMosaic Idealize.ShloMosaic.ValueIdx Cert.KernelIdeal Cert.KernelIdeal.Gen

/-! ## The head's arrays -/

/-- The scores of a tile's keys (down) by its queries (across). -/
def score (k : FVec Ideal S1x1x512x96 .bf16) (q : FVec Ideal S1x96x256 .bf16) : FVec Ideal S512x256 .f32 :=
  matmul dot_S512x96_S96x256_S512x256_1_0_0_1_n_n none (shapeCast S512x96 k shapeCasts_S1x1x512x96_S512x96)
    (shapeCast S96x256 q shapeCasts_S1x96x256_S96x256) (constant S512x256 .f32 0x00000000#32)

/-- The scores under a mask. -/
def masked (c : IVec S512x256 1) (s : FVec Ideal S512x256 .f32) : FVec Ideal S512x256 .f32 :=
  select c s (broadcast S512x256 (Named.named κ "mask" 0xF149F2CA#32))

def newMax (s : FVec Ideal S512x256 .f32) (m : FVec Ideal S1x256 .f32) : FVec Ideal S1x256 .f32 :=
  maximumf m (shapeCast S1x256 (multiReduction .maximumf [0] S256 s 0xFF800000#32 reduces_S512x256_S256 (.inl rfl) rfl)
    shapeCasts_S256_S1x256)

def rescale (s : FVec Ideal S512x256 .f32) (m : FVec Ideal S1x256 .f32) : FVec Ideal S1x256 .f32 :=
  exp (subf m (newMax s m))

def weight (s : FVec Ideal S512x256 .f32) (m : FVec Ideal S1x256 .f32) : FVec Ideal S512x256 .f32 :=
  exp (subf s (broadcastTo S512x256 (newMax s m) broadcasts_S1x256_S512x256))

/-- What is stored of the running maximum. -/
def maxOut (s : FVec Ideal S512x256 .f32) (m : FVec Ideal S1x256 .f32) : FVec Ideal S1x256 .f32 :=
  shapeCast S1x256 (newMax s m) shapeCasts_S1x256_S1x256

/-- What is stored of the running sum. -/
def sumOut (s : FVec Ideal S512x256 .f32) (m l : FVec Ideal S1x256 .f32) : FVec Ideal S1x256 .f32 :=
  shapeCast S1x256 (addf (mulf (rescale s m) l) (shapeCast S1x256
    (multiReduction .add [0] S256 (weight s m) 0x00000000#32 reduces_S512x256_S256 (.inl rfl) rfl) shapeCasts_S256_S1x256))
    shapeCasts_S1x256_S1x256

/-- What is stored of the accumulator. -/
def accOut (s : FVec Ideal S512x256 .f32) (m : FVec Ideal S1x256 .f32) (v : FVec Ideal S1x64x512 .bf16)
    (a : FVec Ideal S64x256 .f32) : FVec Ideal S64x256 .f32 :=
  shapeCast S64x256 (addf (mulf a (broadcastTo S64x256 (rescale s m) broadcasts_S1x256_S64x256))
    (matmul dot_S64x512_S512x256_S64x256_1_0_0_1_n_n none (shapeCast S64x512 v shapeCasts_S1x64x512_S64x512)
      (truncf .bf16 (weight s m) bitsLt_bf16_f32) (constant S64x256 .f32 0x00000000#32))) shapeCasts_S64x256_S64x256

/-- What leaves the kernel. -/
def finOut (l : FVec Ideal S1x256 .f32) (a : FVec Ideal S64x256 .f32) : FVec Ideal S1x64x256 .bf16 :=
  shapeCast S1x64x256 (truncf .bf16 (mulf a (broadcastTo S64x256
    (divf (broadcast S1x256 (Scalar.ofBits .f32 0x3F800000#32)) l) broadcasts_S1x256_S64x256)) bitsLt_bf16_f32)
    shapeCasts_S64x256_S1x64x256

/-! ## At an index -/

theorem ofBits_one : Ideal.ofBits .f32 0x3F800000#32 = 1 := by
  simp [Ideal.ofBits, Ideal.ieee, -EReal.coe_mul]; norm_num

theorem ofBits_bot : Ideal.ofBits .f32 0xFF800000#32 = ⊥ := by
  simp [Ideal.ofBits, Ideal.ieee]

/-- The one row of a tile's keys over a query. -/
theorem lift_row (h : S512x256.Reduces [0] S256) (b : Fin 256) (j : Fin 512) : h.lift (ix1 b) j = ix2 j b := by
  funext c; match c with | ⟨0, _⟩ => rfl | ⟨1, _⟩ => rfl

theorem score_apply (k : FVec Ideal S1x1x512x96 .bf16) (q : FVec Ideal S1x96x256 .bf16) (a : Fin 512) (b : Fin 256) :
    score k q (ix2 a b) = ∑ c : Fin 96, k (ix4 0 0 a c) * q (ix3 0 c b) := by
  refine (Ideal.matmul_plain_apply (M := 512) (K := 96) (N := 256) none _ _ _ a b).trans ?_
  rw [constant_apply, Ideal.ofBits_zero_f32, zero_add]
  refine Finset.sum_congr rfl fun c _ => congrArg₂ (· * ·) ?_ (shapeCast_1ab_ab_apply q _ c b)
  refine shapeCast_apply k _ (ix2 a c) (ix4 0 0 a c) ?_
  rw [Shape.rowMajor_val_two, Shape.rowMajor_val_four]
  show ((0 * 1 + 0) * 512 + a.val) * 96 + c.val = a.val * 96 + c.val
  omega

theorem newMax_apply (s : FVec Ideal S512x256 .f32) (m : FVec Ideal S1x256 .f32) (b : Fin 256) :
    newMax s m (ix2 0 b) = max (m (ix2 0 b)) (Finset.univ.fold max ⊥ fun j : Fin 512 => s (ix2 j b)) := by
  unfold newMax
  rw [maximumf_apply, shapeCast_a_1a_apply]
  refine congrArg _ ((Ideal.multiReduction_maximumf_single s _ reduces_S512x256_S256 _ _ (ix1 b)).trans ?_)
  show Finset.fold max (Ideal.ofBits .f32 0xFF800000#32) _ _ = _
  rw [ofBits_bot]
  exact congrArg (Finset.fold max ⊥ · Finset.univ) (funext fun j => congrArg s (lift_row _ b j))

theorem rescale_apply (s : FVec Ideal S512x256 .f32) (m : FVec Ideal S1x256 .f32) (b : Fin 256) :
    rescale s m (ix2 0 b) = Ideal.exp (m (ix2 0 b) - newMax s m (ix2 0 b)) := rfl

theorem weight_apply (s : FVec Ideal S512x256 .f32) (m : FVec Ideal S1x256 .f32) (a : Fin 512) (b : Fin 256) :
    weight s m (ix2 a b) = Ideal.exp (s (ix2 a b) - newMax s m (ix2 0 b)) := by
  show Ideal.exp (s (ix2 a b) - broadcastTo S512x256 (newMax s m) broadcasts_S1x256_S512x256 (ix2 a b)) = _
  rw [broadcastTo_1b_ab_apply]

theorem maxOut_apply (s : FVec Ideal S512x256 .f32) (m : FVec Ideal S1x256 .f32) (b : Fin 256) :
    maxOut s m (ix2 0 b) = newMax s m (ix2 0 b) := by
  unfold maxOut
  rw [shapeCast_self]

theorem sumOut_apply (s : FVec Ideal S512x256 .f32) (m l : FVec Ideal S1x256 .f32) (b : Fin 256) :
    sumOut s m l (ix2 0 b) = Ideal.exp (m (ix2 0 b) - newMax s m (ix2 0 b)) * l (ix2 0 b)
      + ∑ j : Fin 512, Ideal.exp (s (ix2 j b) - newMax s m (ix2 0 b)) := by
  unfold sumOut
  rw [shapeCast_self, addf_apply, mulf_apply, rescale_apply, shapeCast_a_1a_apply]
  refine congrArg _ ((Ideal.multiReduction_add_single (weight s m) _ reduces_S512x256_S256 _ _ (ix1 b)).trans ?_)
  exact Finset.sum_congr rfl fun j _ => (congrArg _ (lift_row _ b j)).trans (weight_apply s m j b)

theorem accOut_apply (s : FVec Ideal S512x256 .f32) (m : FVec Ideal S1x256 .f32) (v : FVec Ideal S1x64x512 .bf16)
    (a : FVec Ideal S64x256 .f32) (d : Fin 64) (b : Fin 256) :
    accOut s m v a (ix2 d b) = a (ix2 d b) * Ideal.exp (m (ix2 0 b) - newMax s m (ix2 0 b))
      + ∑ j : Fin 512, v (ix3 0 d j) * Ideal.exp (s (ix2 j b) - newMax s m (ix2 0 b)) := by
  unfold accOut
  rw [shapeCast_self, addf_apply, mulf_apply, broadcastTo_1b_ab_apply, rescale_apply]
  refine congrArg _ ((Ideal.matmul_plain_apply (M := 64) (K := 512) (N := 256) none _ _ _ d b).trans ?_)
  rw [constant_apply, Ideal.ofBits_zero_f32, zero_add]
  exact Finset.sum_congr rfl fun c _ => congrArg₂ (· * ·) (shapeCast_1ab_ab_apply v _ d c) (weight_apply s m c b)

theorem finOut_apply (l : FVec Ideal S1x256 .f32) (a : FVec Ideal S64x256 .f32) (d : Fin 64) (b : Fin 256) :
    finOut l a (ix3 0 d b) = a (ix2 d b) * Ideal.div 1 (l (ix2 0 b)) := by
  unfold finOut
  rw [shapeCast_ab_1ab_apply, truncf_apply, mulf_apply, broadcastTo_1b_ab_apply, divf_apply, broadcast_apply]
  exact congrArg (fun x => a (ix2 d b) * Ideal.div x (l (ix2 0 b))) ofBits_one

theorem masked_apply (c : IVec S512x256 1) (s : FVec Ideal S512x256 .f32) (i : S512x256.Idx) :
    masked c s i = if c i = 1#1 then s i else ⊥ := by
  unfold masked
  rw [select_apply, broadcast_apply, IdealRules.named_const.ideal_named_scalar κ "mask" _ ⊥ rfl]
  rfl

/-! ## The three arrays before the first tile -/

theorem initMax_apply (i : S8x256.Idx) : k0_pay129 (F := Ideal) i = ⊥ := by
  unfold k0_pay129
  rw [shapeCast_self, broadcast_apply, IdealRules.named_const.ideal_named_scalar κ "mask" _ ⊥ rfl]

theorem initSum_apply (i : S8x256.Idx) : k0_pay130 (F := Ideal) i = 0 := by
  unfold k0_pay130
  rw [shapeCast_self, broadcast_apply]
  exact Ideal.ofBits_zero_f32

theorem initAcc_apply (i : S512x256.Idx) : k0_pay131 (F := Ideal) i = 0 := by
  unfold k0_pay131
  rw [shapeCast_self, broadcast_apply]
  exact Ideal.ofBits_zero_f32

end Cert.Attn

end
-- ==== Proof.Tile.lean ====
/- One key tile's step on the three running arrays, head by head and index by index, and the kernel's pieces read as it. -/
module

public import proofs.«01_k».proof.Proof.Step

@[expose] public section

noncomputable section

namespace Cert.Attn

open Idealize.ShloMosaic Idealize.ShloMosaic.ValueIdx Cert.KernelIdeal Cert.KernelIdeal.Gen

/-! ## The step -/

/-- A head's feature's row among the transposed queries. -/
def row96 (h : Fin 8) (c : Fin 96) : Fin 768 := ⟨96 * h.val + c.val, by omega⟩

/-- A head's value's row among the values and the accumulators. -/
def row64 (h : Fin 8) (d : Fin 64) : Fin 512 := ⟨64 * h.val + d.val, by omega⟩

/-- The scores of a tile's keys by its queries, head by head. -/
def tile (x0 : Vec Ideal S1x768x256 .bf16) (x1 : Vec Ideal S1x8x512x96 .bf16) (h : Fin 8) (j : Fin 512) (b : Fin 256) : EReal :=
  ∑ c : Fin 96, x1 (ix4 0 h j c) * x0 (ix3 0 (row96 h c) b)

/-- The scores under a mask. -/
def hide (p : IVec S512x256 1) (s : Fin 8 → Fin 512 → Fin 256 → EReal) (h : Fin 8) (j : Fin 512) (b : Fin 256) : EReal :=
  if p (ix2 j b) = 1#1 then s h j b else ⊥

/-- The new running maximum. -/
def stepMax (s : Fin 8 → Fin 512 → Fin 256 → EReal) (m : Fin 8 → Fin 256 → EReal) (h : Fin 8) (b : Fin 256) : EReal :=
  max (m h b) (Finset.univ.fold max ⊥ fun j : Fin 512 => s h j b)

/-- The new running sum. -/
def stepSum (s : Fin 8 → Fin 512 → Fin 256 → EReal) (m l : Fin 8 → Fin 256 → EReal) (h : Fin 8) (b : Fin 256) : EReal :=
  Ideal.exp (m h b - stepMax s m h b) * l h b + ∑ j : Fin 512, Ideal.exp (s h j b - stepMax s m h b)

/-- The new accumulator. -/
def stepAcc (s : Fin 8 → Fin 512 → Fin 256 → EReal) (m : Fin 8 → Fin 256 → EReal) (v : Fin 8 → Fin 64 → Fin 512 → EReal)
    (a : Fin 8 → Fin 64 → Fin 256 → EReal) (h : Fin 8) (d : Fin 64) (b : Fin 256) : EReal :=
  a h d b * Ideal.exp (m h b - stepMax s m h b) + ∑ j : Fin 512, v h d j * Ideal.exp (s h j b - stepMax s m h b)

/-- The running maximum or sum by head and query. -/
def rows (x : Vec Ideal S8x256 .f32) (h : Fin 8) (b : Fin 256) : EReal := x (ix2 h b)

/-- The accumulators by head, value and query. -/
def accs (x : Vec Ideal S512x256 .f32) (h : Fin 8) (d : Fin 64) (b : Fin 256) : EReal := x (ix2 (row64 h d) b)

/-- The values by head, value and key. -/
def vals (x : Vec Ideal S1x512x512 .bf16) (h : Fin 8) (d : Fin 64) (j : Fin 512) : EReal := x (ix3 0 (row64 h d) j)

/-! ## One head's arrays as the step -/

section
variable {S : FVec Ideal S512x256 .f32} {M L : FVec Ideal S1x256 .f32} {V : FVec Ideal S1x64x512 .bf16} {A : FVec Ideal S64x256 .f32}
  {s : Fin 8 → Fin 512 → Fin 256 → EReal} {m l : Fin 8 → Fin 256 → EReal} {v : Fin 8 → Fin 64 → Fin 512 → EReal}
  {a : Fin 8 → Fin 64 → Fin 256 → EReal}

theorem newMax_step (h : Fin 8) (hs : ∀ j b, S (ix2 j b) = s h j b) (hm : ∀ b, M (ix2 0 b) = m h b) (b : Fin 256) :
    newMax S M (ix2 0 b) = stepMax s m h b := by
  rw [newMax_apply, hm, stepMax]
  exact congrArg _ (congrArg (Finset.fold max ⊥ · Finset.univ) (funext fun j => hs j b))

theorem maxOut_step (h : Fin 8) (hs : ∀ j b, S (ix2 j b) = s h j b) (hm : ∀ b, M (ix2 0 b) = m h b) (b : Fin 256) :
    maxOut S M (ix2 0 b) = stepMax s m h b := by
  rw [maxOut_apply, newMax_step h hs hm]

theorem sumOut_step (h : Fin 8) (hs : ∀ j b, S (ix2 j b) = s h j b) (hm : ∀ b, M (ix2 0 b) = m h b) (hl : ∀ b, L (ix2 0 b) = l h b)
    (b : Fin 256) : sumOut S M L (ix2 0 b) = stepSum s m l h b := by
  rw [sumOut_apply, newMax_step h hs hm, hm, hl, stepSum]
  simp only [hs]

theorem accOut_step (h : Fin 8) (hs : ∀ j b, S (ix2 j b) = s h j b) (hm : ∀ b, M (ix2 0 b) = m h b)
    (hv : ∀ d j, V (ix3 0 d j) = v h d j) (ha : ∀ d b, A (ix2 d b) = a h d b) (d : Fin 64) (b : Fin 256) :
    accOut S M V A (ix2 d b) = stepAcc s m v a h d b := by
  rw [accOut_apply, newMax_step h hs hm, hm, ha, stepAcc]
  simp only [hs, hv]
end

end Cert.Attn

end
-- ==== Proof.Online.lean ====
/- Softmax accumulated in pieces, on the extended reals: a running maximum, a running sum of exponentials and a running
   weighted sum, rescaled each time the maximum moves, against the whole maximum and the whole sums. -/
module

public import Idealize.ShloMosaic.PureOps.Ideal.Laws

@[expose] public section

noncomputable section

namespace Cert.Online

open Idealize.ShloMosaic

/-- The maximum of the first `n` scores, −∞ of none. -/
def top (s : ℕ → EReal) (n : ℕ) : EReal := (Finset.range n).sup s

/-- The first `n` weights, each times the exponential of its score less `M`, added up. -/
def acc (w s : ℕ → EReal) (n : ℕ) (M : EReal) : EReal := ∑ j ∈ Finset.range n, w j * Ideal.exp (s j - M)

theorem exp_nonneg (x : EReal) : 0 ≤ Ideal.exp x := by
  induction x with
  | bot => exact le_refl _
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem exp_zero : Ideal.exp 0 = 1 := by
  show ((Real.exp 0 : ℝ) : EReal) = 1
  rw [Real.exp_zero]; rfl

/-- A difference downwards is never +∞. -/
theorem sub_ne_top {a b : EReal} (h : a ≤ b) : a - b ≠ ⊤ := by
  induction b with
  | bot => rw [le_bot_iff.mp h]; exact bot_ne_top
  | top => exact (EReal.sub_top a).trans_ne bot_ne_top
  | coe r =>
    induction a with
    | bot => exact bot_ne_top
    | top => exact absurd h (not_le.mpr (EReal.coe_lt_top r))
    | coe q => exact EReal.coe_ne_top (q - r)

/-- Two rescalings in a row are one, as long as the maxima rise. -/
theorem exp_sub_mul {a b c : EReal} (hab : a ≤ b) (hbc : b ≤ c) :
    Ideal.exp (a - b) * Ideal.exp (b - c) = Ideal.exp (a - c) := by
  induction c with
  | bot =>
    rw [le_bot_iff.mp hbc] at hab ⊢
    rw [le_bot_iff.mp hab]
    exact zero_mul 0
  | top =>
    rw [EReal.sub_top, EReal.sub_top]
    exact mul_zero _
  | coe r =>
    induction b with
    | top => exact absurd hbc (not_le.mpr (EReal.coe_lt_top r))
    | bot =>
      rw [le_bot_iff.mp hab]
      exact zero_mul 0
    | coe q =>
      induction a with
      | top => exact absurd hab (not_le.mpr (EReal.coe_lt_top q))
      | bot => exact zero_mul _
      | coe p =>
        show ((Real.exp (p - q) : ℝ) : EReal) * ((Real.exp (q - r) : ℝ) : EReal) = ((Real.exp (p - r) : ℝ) : EReal)
        rw [← EReal.coe_mul, ← Real.exp_add]
        congr 2; ring

/-- A finite factor that is not negative goes into a sum. -/
theorem sum_mul {ι : Type*} (S : Finset ι) (f : ι → EReal) {c : EReal} (h0 : 0 ≤ c) (h1 : c ≠ ⊤) :
    (∑ j ∈ S, f j) * c = ∑ j ∈ S, f j * c := by
  classical
  induction S using Finset.induction_on with
  | empty => simp
  | insert a S ha ih => rw [Finset.sum_insert ha, Finset.sum_insert ha, EReal.right_distrib_of_nonneg_of_ne_top h0 h1, ih]

theorem le_top_of_lt (s : ℕ → EReal) {n j : ℕ} (h : j < n) : s j ≤ top s n := Finset.le_sup (Finset.mem_range.mpr h)

/-- The maximum after one more piece of `k` scores. -/
theorem top_add (s : ℕ → EReal) (n k : ℕ) :
    max (top s n) (Finset.univ.fold max ⊥ fun j : Fin k => s (n + j)) = top s (n + k) := by
  have h : (Finset.univ.fold max ⊥ fun j : Fin k => s (n + j)) = Finset.univ.sup fun j : Fin k => s (n + j) := rfl
  rw [h]
  apply le_antisymm
  · refine max_le (Finset.sup_mono (Finset.range_subset_range.mpr (Nat.le_add_right n k))) (Finset.sup_le fun j _ => ?_)
    exact le_top_of_lt s (by omega)
  · refine Finset.sup_le fun j hj => ?_
    have hj' := Finset.mem_range.mp hj
    by_cases hn : j < n
    · exact le_max_of_le_left (le_top_of_lt s hn)
    · refine le_max_of_le_right ?_
      have := Finset.le_sup (f := fun i : Fin k => s (n + i)) (Finset.mem_univ (⟨j - n, by omega⟩ : Fin k))
      simpa only [show n + (j - n) = j by omega] using this

/-- The weighted sum after one more piece: the old one rescaled to the new maximum, and the piece. -/
theorem acc_add (w s : ℕ → EReal) (n k : ℕ) {M' : EReal} (h : top s n ≤ M') :
    acc w s n (top s n) * Ideal.exp (top s n - M') + ∑ j : Fin k, w (n + j) * Ideal.exp (s (n + j) - M')
      = acc w s (n + k) M' := by
  unfold acc
  rw [Finset.sum_range_add, sum_mul _ _ (exp_nonneg _) (exp_ne_top (sub_ne_top h)),
    Finset.sum_range fun x => w (n + x) * Ideal.exp (s (n + x) - M')]
  refine congrArg (· + _) (Finset.sum_congr rfl fun j hj => ?_)
  rw [mul_assoc, exp_sub_mul (le_top_of_lt s (Finset.mem_range.mp hj)) h]

/-- A piece that is hidden whole moves nothing. -/
theorem top_skip (s : ℕ → EReal) (n k : ℕ) (h : ∀ j, n ≤ j → j < n + k → s j = ⊥) : top s (n + k) = top s n := by
  refine le_antisymm (Finset.sup_le fun j hj => ?_) (Finset.sup_mono (Finset.range_subset_range.mpr (Nat.le_add_right n k)))
  have hj' := Finset.mem_range.mp hj
  by_cases hn : j < n
  · exact le_top_of_lt s hn
  · rw [h j (by omega) hj']; exact bot_le

theorem acc_skip (w s : ℕ → EReal) (n k : ℕ) (M : EReal) (h : ∀ j, n ≤ j → j < n + k → s j = ⊥) :
    acc w s (n + k) M = acc w s n M := by
  unfold acc
  rw [Finset.sum_range_add]
  refine (congrArg (_ + ·) (Finset.sum_eq_zero fun j hj => ?_)).trans (add_zero _)
  rw [h _ (Nat.le_add_right n j) (by have := Finset.mem_range.mp hj; omega), EReal.bot_sub]
  exact mul_zero _

/-- Where some score is above −∞ and none is +∞, the sum of the exponentials is not zero. -/
theorem acc_one_ne_zero (s : ℕ → EReal) {n j : ℕ} (hj : j < n) (hb : s j ≠ ⊥) (ht : ∀ i, s i ≠ ⊤) :
    acc (fun _ => 1) s n (top s n) ≠ 0 := by
  obtain ⟨i, hi, he⟩ := Finset.exists_mem_eq_sup (Finset.range n) ⟨j, Finset.mem_range.mpr hj⟩ s
  have hib : s i ≠ ⊥ := fun h => hb (le_bot_iff.mp ((le_top_of_lt s hj).trans_eq (he.trans h)))
  have h1 : Ideal.exp (s i - top s n) = 1 := by
    rw [show top s n = s i from he, EReal.sub_self (ht i) hib, exp_zero]
  have h2 : (1 : EReal) ≤ acc (fun _ => 1) s n (top s n) := by
    refine le_trans (le_of_eq ?_) (Finset.single_le_sum (f := fun j => 1 * Ideal.exp (s j - top s n))
      (fun j _ => by rw [one_mul]; exact exp_nonneg _) hi)
    rw [one_mul, h1]
  exact fun h => absurd (h2.trans_eq h) (not_le.mpr one_pos)

/-- Dividing at the end is dividing every weight. -/
theorem acc_div (w s : ℕ → EReal) (n : ℕ) (M : EReal) {L : EReal} (hL : L ≠ 0) (hp : 0 ≤ L) :
    acc w s n M * Ideal.div 1 L = ∑ j ∈ Finset.range n, w j * Ideal.div (Ideal.exp (s j - M)) L := by
  have hd (x : EReal) : Ideal.div x L = x * L⁻¹ := if_neg hL
  unfold acc
  rw [hd, one_mul, sum_mul _ _ (EReal.inv_nonneg_of_nonneg hp) ?_]
  · exact Finset.sum_congr rfl fun j _ => by rw [hd, mul_assoc]
  · induction L with
    | bot => exact absurd hp (by simp)
    | top => simp
    | coe r => exact EReal.coe_ne_top r⁻¹

theorem acc_one_nonneg (s : ℕ → EReal) (n : ℕ) (M : EReal) : 0 ≤ acc (fun _ => 1) s n M :=
  Finset.sum_nonneg fun j _ => by rw [one_mul]; exact exp_nonneg _

end Cert.Online

end
-- ==== Proof.Attention.lean ====
/- The attention both programs compute, written over the five arrays as functions of their coordinates. -/
module

public import proofs.«01_k».proof.Proof.Online
public import Idealize.ShloMosaic.Lib.ValueIdx

@[expose] public section

noncomputable section

namespace Cert.Attn

open Idealize.ShloMosaic Cert.Online

/-- The logits' scale. -/
def scale : EReal := Ideal.ofBits .f32 0x3DD105EC#32

section
variable (qn : Fin 2 → Fin 16384 → Fin 8 → Fin 64 → EReal) (qr : Fin 2 → Fin 16384 → Fin 8 → Fin 32 → EReal)
  (kn : Fin 2 → Fin 16384 → Fin 8 → Fin 64 → EReal) (kr : Fin 2 → Fin 16384 → Fin 32 → EReal)
  (v : Fin 2 → Fin 16384 → Fin 8 → Fin 64 → EReal)

/-- A query's score with a key, by the head's own features and the shared rotary ones. -/
def dots (b : Fin 2) (h : Fin 8) (q k : Fin 16384) : EReal :=
  ∑ c : Fin 64, qn b q h c * kn b k h c + ∑ c : Fin 32, kr b k c * qr b q h c

/-- A query's masked logits: minus infinity past the query, and past the last key. -/
def logit (b : Fin 2) (h : Fin 8) (q : Fin 16384) (j : ℕ) : EReal :=
  if hj : j < 16384 then (if j ≤ q.val then dots qn qr kn kr b h q ⟨j, hj⟩ * scale else ⊥) else ⊥

/-- One value of each key. -/
def valueAt (b : Fin 2) (h : Fin 8) (d : Fin 64) (j : ℕ) : EReal :=
  if hj : j < 16384 then v b ⟨j, hj⟩ h d else 0

/-- The attention's output at one head's value and one query. -/
def attention (b : Fin 2) (h : Fin 8) (d : Fin 64) (q : Fin 16384) : EReal :=
  ∑ j ∈ Finset.range 16384, valueAt v b h d j *
    Ideal.div (Ideal.exp (logit qn qr kn kr b h q j - top (logit qn qr kn kr b h q) 16384))
      (acc (fun _ => 1) (logit qn qr kn kr b h q) 16384 (top (logit qn qr kn kr b h q) 16384))
end

/-- Comparing two small numbers as words is comparing them. -/
theorem sle_iff {j q : ℕ} (hj : j < 2 ^ 31) (hq : q < 2 ^ 31) :
    IntOp.cmpi .sle (BitVec.ofNat 32 j) (BitVec.ofNat 32 q) = 1#1 ↔ j ≤ q := by
  show BitVec.ofBool ((BitVec.ofNat 32 j).sle (BitVec.ofNat 32 q)) = 1#1 ↔ _
  have e : (BitVec.ofNat 32 j).sle (BitVec.ofNat 32 q) = decide (j ≤ q) := by
    rw [BitVec.sle_eq_decide, BitVec.toInt_ofNat', BitVec.toInt_ofNat']
    rw [Int.bmod_eq_of_le (by omega) (by omega), Int.bmod_eq_of_le (by omega) (by omega)]
    simp
  rw [e]
  by_cases h : j ≤ q <;> simp [h]

end Cert.Attn

end
-- ==== Proof.Operands.lean ====
/- The three operands the kernel is called on, and the blocks its grid points read of them, by coordinates. -/
module

public import proofs.«01_k».proof.Proof.Gen.KernelIdeal.Frame.Runs
public import proofs.«01_k».proof.Proof.Tile
public import proofs.«01_k».proof.Proof.Attention
public import Idealize.ShloMosaic.Lib.Claim
public import Idealize.ShloMosaic.Lib.Pointwise
public import Idealize.ShloMosaic.Lib.Pipeline.ValueKit

@[expose] public section

noncomputable section

namespace Cert.Attn

open Idealize.ShloMosaic hiding ix1 ix2 ix3 ix4
open Idealize.ShloMosaic.ValueIdx Idealize.ShloMosaic.TcCoe Cert.KernelIdeal Cert.KernelIdeal.Gen

variable (m : (ℓ : Loc nD τ sig) → Buf (Elt Ideal) ℓ) (c : Dev nD)

/-! ## The arguments by coordinates -/

def qNope (b : Fin 2) (q : Fin 16384) (h : Fin 8) (e : Fin 64) : EReal := m ((c.tc : Thread nD τ).loc main_arg0) (ix4 b q h e)
def qRope (b : Fin 2) (q : Fin 16384) (h : Fin 8) (e : Fin 32) : EReal := m ((c.tc : Thread nD τ).loc main_arg1) (ix4 b q h e)
def kNope (b : Fin 2) (k : Fin 16384) (h : Fin 8) (e : Fin 64) : EReal := m ((c.tc : Thread nD τ).loc main_arg2) (ix4 b k h e)
def kRope (b : Fin 2) (k : Fin 16384) (e : Fin 32) : EReal := m ((c.tc : Thread nD τ).loc main_arg3) (ix3 b k e)
def value (b : Fin 2) (k : Fin 16384) (h : Fin 8) (d : Fin 64) : EReal := m ((c.tc : Thread nD τ).loc main_arg4) (ix4 b k h d)

/-- A query's feature, its own first and its rotary ones after, scaled. -/
def qFeat (b : Fin 2) (h : Fin 8) (q : Fin 16384) (e : Fin 96) : EReal :=
  (if he : e.val < 64 then qNope m c b q h ⟨e.val, he⟩ else qRope m c b q h ⟨e.val - 64, by omega⟩) * scale

/-- A key's feature, its own first and the shared rotary ones after. -/
def kFeat (b : Fin 2) (h : Fin 8) (k : Fin 16384) (e : Fin 96) : EReal :=
  if he : e.val < 64 then kNope m c b k h ⟨e.val, he⟩ else kRope m c b k ⟨e.val - 64, by omega⟩

/-- Two arrays joined along their last axis, at an index. -/
theorem joined_apply (x : S2x16384x8x64.Idx → EReal) (y : S2x16384x8x32.Idx → EReal) (w) (b : Fin 2) (q : Fin 16384) (h : Fin 8) (e : Fin 96) :
    concatenate S2x16384x8x96 3 [⟨S2x16384x8x64, x⟩, ⟨S2x16384x8x32, y⟩] w (ix4 b q h e)
      = if he : e.val < 64 then x (ix4 b q h ⟨e.val, he⟩) else y (ix4 b q h ⟨e.val - 64, by omega⟩) := by
  by_cases he : e.val < 64
  · rw [dif_pos he]
    refine concatenate_pair_apply_left (s₁ := S2x16384x8x64) (s₂ := S2x16384x8x32) 3 x y w (ix4 b q h e) rfl (ix4 b q h ⟨e.val, he⟩) fun a => ?_
    match a with | ⟨0, _⟩ => rfl | ⟨1, _⟩ => rfl | ⟨2, _⟩ => rfl | ⟨3, _⟩ => rfl
  · rw [dif_neg he]
    refine concatenate_pair_apply_right (s₁ := S2x16384x8x64) (s₂ := S2x16384x8x32) 3 x y w (ix4 b q h e) rfl rfl
      (ix4 b q h ⟨e.val - 64, by omega⟩) (fun a ha => ?_) (Nat.sub_add_cancel (Nat.le_of_not_lt he))
    match a with | ⟨0, _⟩ => rfl | ⟨1, _⟩ => rfl | ⟨2, _⟩ => rfl | ⟨3, _⟩ => exact absurd rfl ha

theorem query_entry (b : Fin 2) (h : Fin 8) (q : Fin 16384) (e : Fin 96) :
    (V m c main_v5 : S2x768x16384.Idx → EReal) (ix3 b (row96 h e) q) = qFeat m c b h q e := by
  entry_read
  refine (transpose_apply _ _ _ _ (ix3 b q (row96 h e)) fun a => by match a with | ⟨0, _⟩ => rfl | ⟨1, _⟩ => rfl | ⟨2, _⟩ => rfl).trans ?_
  refine (shapeCast_apply _ _ _ (ix4 b q h e) ?_).trans ?_
  · refine (Shape.rowMajor_val_four _).trans (Eq.trans ?_ (Shape.rowMajor_val_three _).symm)
    show ((b.val * 16384 + q.val) * 8 + h.val) * 96 + e.val = (b.val * 16384 + q.val) * 768 + (96 * h.val + e.val)
    omega
  refine congrArg (· * scale) ?_
  exact joined_apply _ _ _ b q h e

theorem key_entry (b : Fin 2) (h : Fin 8) (k : Fin 16384) (e : Fin 96) :
    (V m c main_v10 : S2x8x16384x96.Idx → EReal) (ix4 b h k e) = kFeat m c b h k e := by
  entry_read
  refine (transpose_apply _ _ _ _ (ix4 b k h e) fun a => by match a with | ⟨0, _⟩ => rfl | ⟨1, _⟩ => rfl | ⟨2, _⟩ => rfl | ⟨3, _⟩ => rfl).trans ?_
  refine (joined_apply _ _ concatenates_S2x16384x8x64_S2x16384x8x32_S2x16384x8x96_d3 b k h e).trans ?_
  unfold kFeat
  by_cases he : e.val < 64
  · rw [dif_pos he, dif_pos he]
    rfl
  · rw [dif_neg he, dif_neg he]
    refine (broadcastInDim_apply _ _ _ _ (ix4 b k 0 ⟨e.val - 64, by omega⟩) fun a => ?_).trans ?_
    · match a with | ⟨0, _⟩ => rfl | ⟨1, _⟩ => rfl | ⟨2, _⟩ => rfl | ⟨3, _⟩ => rfl
    · refine broadcastInDim_apply _ _ _ _ (ix3 b k ⟨e.val - 64, by omega⟩) fun a => ?_
      match a with | ⟨0, _⟩ => rfl | ⟨1, _⟩ => rfl | ⟨2, _⟩ => rfl

theorem value_entry (b : Fin 2) (h : Fin 8) (d : Fin 64) (k : Fin 16384) :
    (V m c main_v13 : S2x512x16384.Idx → EReal) (ix3 b (row64 h d) k) = value m c b k h d := by
  entry_read
  refine (transpose_apply _ _ _ _ (ix3 b k (row64 h d)) fun a => by match a with | ⟨0, _⟩ => rfl | ⟨1, _⟩ => rfl | ⟨2, _⟩ => rfl).trans ?_
  refine shapeCast_apply _ _ _ (ix4 b k h d) ?_
  refine (Shape.rowMajor_val_four _).trans (Eq.trans ?_ (Shape.rowMajor_val_three _).symm)
  show ((b.val * 16384 + k.val) * 8 + h.val) * 64 + d.val = (b.val * 16384 + k.val) * 512 + (64 * h.val + d.val)
  omega

/-! ## The score of a query with a key -/

theorem scale_coe : ∃ r : ℝ, 0 ≤ r ∧ scale = (r : EReal) := by
  have e : scale = ((Ideal.ieee 8 23 0x3DD105EC#32 : EReal)) := rfl
  simp [Ideal.ieee, -EReal.coe_mul] at e
  exact ⟨13698540 * (2 ^ 27)⁻¹, by positivity, e⟩

theorem scale_nonneg : 0 ≤ scale := by
  obtain ⟨r, h, e⟩ := scale_coe
  rw [e]; exact_mod_cast h

theorem scale_ne_top : scale ≠ ⊤ := by
  obtain ⟨r, _, e⟩ := scale_coe
  rw [e]; exact EReal.coe_ne_top r

theorem feats_dots (b : Fin 2) (h : Fin 8) (q k : Fin 16384) :
    ∑ e : Fin 96, kFeat m c b h k e * qFeat m c b h q e
      = dots (qNope m c) (qRope m c) (kNope m c) (kRope m c) b h q k * scale := by
  refine (Fin.sum_univ_add (a := 64) (b := 32) fun e => kFeat m c b h k e * qFeat m c b h q e).trans ?_
  rw [dots, EReal.right_distrib_of_nonneg_of_ne_top scale_nonneg scale_ne_top,
    Online.sum_mul _ _ scale_nonneg scale_ne_top, Online.sum_mul _ _ scale_nonneg scale_ne_top]
  refine congrArg₂ (· + ·) (Finset.sum_congr rfl fun e _ => ?_) (Finset.sum_congr rfl fun e _ => ?_)
  · have he : (Fin.castAdd 32 e).val < 64 := e.isLt
    rw [kFeat, qFeat, dif_pos he, dif_pos he, ← mul_assoc, mul_comm (kNope _ _ _ _ _ _)]
    rfl
  · have he : ¬(Fin.natAdd 64 e).val < 64 := by simp
    rw [kFeat, qFeat, dif_neg he, dif_neg he, ← mul_assoc]
    have e' : (⟨(Fin.natAdd 64 e).val - 64, by have := e.isLt; simp⟩ : Fin 32) = e := Fin.ext (by simp)
    rw [e']

end Cert.Attn

end
-- ==== Proof.Finite.lean ====
/- Finite queries and keys have real logits, so that a query's first key keeps the sum of its weights from being zero. -/
module

public import proofs.«01_k».proof.Proof.Operands
public import proofs.«01_k».proof.Defs
public import Idealize.ShloMosaic.Lib.ReduceAll

@[expose] public section

noncomputable section

namespace Cert.Attn

open Idealize.ShloMosaic hiding ix1 ix2 ix3 ix4
open Idealize.ShloMosaic.ValueIdx Idealize.ShloMosaic.TcCoe Cert.Online

/-- A value that is a real number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type*} (S : Finset ι) (f : ι → EReal) (h : ∀ i, IsReal (f i)) : IsReal (∑ i ∈ S, f i) :=
  Finset.sum_induction f IsReal (fun _ _ => IsReal.add) ⟨0, rfl⟩ fun i _ => h i

theorem IsReal.ne_bot {x : EReal} : IsReal x → x ≠ ⊥
  | ⟨r, h⟩ => h ▸ EReal.coe_ne_bot r

theorem IsReal.ne_top {x : EReal} : IsReal x → x ≠ ⊤
  | ⟨r, h⟩ => h ▸ EReal.coe_ne_top r

theorem isReal_scale : IsReal scale := let ⟨r, _, h⟩ := scale_coe; ⟨r, h⟩

/-! ## Real features have real logits -/

section
variable {qn : Fin 2 → Fin 16384 → Fin 8 → Fin 64 → EReal} {qr : Fin 2 → Fin 16384 → Fin 8 → Fin 32 → EReal}
  {kn : Fin 2 → Fin 16384 → Fin 8 → Fin 64 → EReal} {kr : Fin 2 → Fin 16384 → Fin 32 → EReal}
  (hqn : ∀ b q h e, IsReal (qn b q h e)) (hqr : ∀ b q h e, IsReal (qr b q h e))
  (hkn : ∀ b q h e, IsReal (kn b q h e)) (hkr : ∀ b q e, IsReal (kr b q e))
include hqn hqr hkn hkr

theorem dots_real (b : Fin 2) (h : Fin 8) (q k : Fin 16384) : IsReal (dots qn qr kn kr b h q k * scale) :=
  (((IsReal.sum _ _ fun e => (hqn b q h e).mul (hkn b k h e)).add (IsReal.sum _ _ fun e => (hkr b k e).mul (hqr b q h e)))).mul isReal_scale

theorem logit_ne_top (b : Fin 2) (h : Fin 8) (q : Fin 16384) (j : ℕ) : logit qn qr kn kr b h q j ≠ ⊤ := by
  rw [logit]
  split
  · split
    · exact (dots_real hqn hqr hkn hkr b h q _).ne_top
    · exact bot_ne_top
  · exact bot_ne_top

/-- Every query sees the first key. -/
theorem weights_ne_zero (b : Fin 2) (h : Fin 8) (q : Fin 16384) :
    acc (fun _ => 1) (logit qn qr kn kr b h q) 16384 (top (logit qn qr kn kr b h q) 16384) ≠ 0 := by
  refine acc_one_ne_zero _ (j := 0) (by decide) ?_ (logit_ne_top hqn hqr hkn hkr b h q)
  rw [logit, dif_pos (by decide), if_pos (Nat.zero_le _)]
  exact (dots_real hqn hqr hkn hkr b h q _).ne_bot
end

/-! ## The precondition, by entries -/

theorem real_of_between {x : EReal} (e : IntOp.andi (Ideal.cmp .ogt x (Ideal.ofBits .f32 0xFF800000#32)) (Ideal.cmp .olt x (Ideal.ofBits .f32 0x7F800000#32)) = 1#1) :
    IsReal x := by
  obtain ⟨a, b⟩ := IntOp.andi_eq_one.mp e
  rw [show Ideal.ofBits .f32 0xFF800000#32 = ⊥ by simp [Ideal.ofBits, Ideal.ieee]] at a
  rw [show Ideal.ofBits .f32 0x7F800000#32 = ⊤ by simp [Ideal.ofBits, Ideal.ieee]] at b
  have a' : ⊥ < x := by by_contra h; simp [Ideal.cmp, h] at a
  have b' : x < ⊤ := by by_contra h; simp [Ideal.cmp, h] at b
  exact ⟨x.toReal, (EReal.coe_toReal b'.ne a'.ne').symm⟩

instance : Subsingleton Cert.Pre_finite.S_.Idx := ⟨fun _ _ => funext fun a => a.elim0⟩

open Cert.KernelIdeal in
theorem finite_entries [hf : Cert.Pre_finite.Facts] (m : (ℓ : Loc nD τ sig) → Buf (Elt Ideal) ℓ) (c : Dev nD) (h : Cert.Pre_KernelIdeal_finite m) :
    (∀ b q h e, IsReal (qNope m c b q h e)) ∧ (∀ b q h e, IsReal (qRope m c b q h e))
      ∧ (∀ b q h e, IsReal (kNope m c b q h e)) ∧ (∀ b q e, IsReal (kRope m c b q e)) := by
  have e := congrFun (h c) (fun a => a.elim0)
  dsimp only [Cert.Pre_finite.fn, Cert.Pre_finite.fn_part1] at e
  obtain ⟨e, e3⟩ := IntOp.andi_eq_one.mp e
  obtain ⟨e, e2⟩ := IntOp.andi_eq_one.mp e
  obtain ⟨e, e1⟩ := IntOp.andi_eq_one.mp e
  obtain ⟨_, e0⟩ := IntOp.andi_eq_one.mp e
  exact ⟨fun b q h i => real_of_between (Host.reduce_andi_all _ _ _ _ _ e0 (ix4 b q h i)),
    fun b q h i => real_of_between (Host.reduce_andi_all _ _ _ _ _ e1 (ix4 b q h i)),
    fun b q h i => real_of_between (Host.reduce_andi_all _ _ _ _ _ e2 (ix4 b q h i)),
    fun b q i => real_of_between (Host.reduce_andi_all _ _ _ _ _ e3 (ix3 b q i))⟩

end Cert.Attn

end
-- ==== Proof.Ref.lean ====
/- What the reference computes, at an index: the attention. -/
module

public import proofs.«01_k».proof.Proof.Gen.ReferenceIdeal.Read
public import proofs.«01_k».proof.Proof.Attention
public import Idealize.ShloMosaic.Lib.ValueIdx

@[expose] public section

noncomputable section

namespace Cert.Reference

open Idealize.ShloMosaic Idealize.ShloMosaic.ValueIdx Cert.ReferenceIdeal Cert.ReferenceIdeal.Gen Cert.ReferenceIdeal.Read Cert.Attn Cert.Online

/-- An array of a head's 64 features by its coordinates. -/
def heads64 (x : (⟨S2x16384x8x64, .f32⟩ : BufTy).Contents (Elt Ideal)) (b : Fin 2) (q : Fin 16384) (h : Fin 8) (c : Fin 64) : EReal :=
  x (ix4 b q h c)

/-- An array of a head's 32 rotary features by its coordinates. -/
def heads32 (x : (⟨S2x16384x8x32, .f32⟩ : BufTy).Contents (Elt Ideal)) (b : Fin 2) (q : Fin 16384) (h : Fin 8) (c : Fin 32) : EReal :=
  x (ix4 b q h c)

/-- The array of the shared rotary features by its coordinates. -/
def shared32 (x : (⟨S2x16384x32, .f32⟩ : BufTy).Contents (Elt Ideal)) (b : Fin 2) (k : Fin 16384) (c : Fin 32) : EReal :=
  x (ix3 b k c)

variable (x0 : (⟨S2x16384x8x64, .f32⟩ : BufTy).Contents (Elt Ideal)) (x1 : (⟨S2x16384x8x32, .f32⟩ : BufTy).Contents (Elt Ideal))
  (x2 : (⟨S2x16384x8x64, .f32⟩ : BufTy).Contents (Elt Ideal)) (x3 : (⟨S2x16384x32, .f32⟩ : BufTy).Contents (Elt Ideal))
  (x4 : (⟨S2x16384x8x64, .f32⟩ : BufTy).Contents (Elt Ideal))

/-- The logits of a query at a head. -/
abbrev row (b : Fin 2) (h : Fin 8) (q : Fin 16384) : ℕ → EReal := logit (heads64 x0) (heads32 x1) (heads64 x2) (shared32 x3) b h q

theorem dots_apply (b : Fin 2) (h : Fin 8) (q k : Fin 16384) :
    val_main_v9 (F := Ideal) x0 x1 x2 x3 (ix4 b h q k) = dots (heads64 x0) (heads32 x1) (heads64 x2) (shared32 x3) b h q k := by
  rw [val_main_v9_apply, val_main_v6_apply, val_main_v8_apply, val_main_v7_apply]
  refine congrArg₂ (· + ·) (Finset.sum_congr rfl fun c _ => ?_) (Finset.sum_congr rfl fun c _ => ?_)
  · exact congrArg₂ (· * ·) (congrArg x0 (funext fun a => by fin_cases a <;> rfl)) (congrArg x2 (funext fun a => by fin_cases a <;> rfl))
  · exact congrArg₂ (· * ·) (congrArg x3 (funext fun a => by fin_cases a <;> rfl)) (congrArg x1 (funext fun a => by fin_cases a <;> rfl))

theorem masked_apply (b : Fin 2) (h : Fin 8) (q k : Fin 16384) :
    val_main_v13 (F := Ideal) x0 x1 x2 x3 (ix4 b h q k) = row x0 x1 x2 x3 b h q k.val := by
  rw [val_main_v13_apply, val_main_v11_apply, dots_apply, val_main_call0_v1_apply, val_main_v12_apply, val_main_v5_apply,
    val_main_v3_apply, val_main_v4_apply, val_main_v1_apply, val_main_v2_apply, val_main_v0_apply, val_main_v0_apply,
    val_main_v10_apply, val_main_call0_v2_apply]
  show (if IntOp.cmpi .sle (BitVec.ofNat 32 k.val) (BitVec.ofNat 32 q.val) = 1#1 then _ * scale else Ideal.ofBits .f32 0xFF800000#32) = _
  unfold row logit
  rw [dif_pos k.isLt]
  by_cases hk : k.val ≤ q.val
  · rw [if_pos ((sle_iff (by have := k.isLt; omega) (by have := q.isLt; omega)).mpr hk), if_pos hk]
  · rw [if_neg (fun e => hk ((sle_iff (by have := k.isLt; omega) (by have := q.isLt; omega)).mp e)), if_neg hk]
    simp [Ideal.ofBits, Ideal.ieee]

theorem first_bot : val_main_cst_1 (F := Ideal) (Shape.Idx.first h_S_) = ⊥ := by
  rw [val_main_cst_1_apply]
  show Ideal.ofBits .f32 0xFF800000#32 = ⊥
  simp [Ideal.ofBits, Ideal.ieee]

theorem fold_top (s : ℕ → EReal) (n : ℕ) : (Finset.univ : Finset (Fin n)).fold max ⊥ (fun j => s j.val) = top s n := by
  have := top_add s 0 n
  simp only [Nat.zero_add] at this
  rw [← this]
  simp [top]

theorem fold_apply (y : (⟨S2x8x16384x16384, .f32⟩ : BufTy).Contents (Elt Ideal)) (b : Fin 2) (h : Fin 8) (q : Fin 16384) :
    Host.reduce (FloatOps.maximumf (F := Ideal) (φ := .f32)) y (val_main_cst_1 (F := Ideal)) reducesTo_S2x8x16384x16384_S2x8x16384_d3 h_S_ (ix3 b h q)
      = (Finset.univ : Finset (Fin 16384)).fold max ⊥ fun k => y (ix4 b h q k) := by
  have hR : S2x8x16384x16384.Reduces [3] S2x8x16384 := by decide
  refine (Host.reduce_eq_fold_single (max : EReal → EReal → EReal) y (val_main_cst_1 (F := Ideal))
    reducesTo_S2x8x16384x16384_S2x8x16384_d3 hR h_S_ (ix3 b h q)).trans ?_
  rw [first_bot]
  exact congrArg (Finset.fold max ⊥ · Finset.univ) (funext fun k => congrArg y
    (funext fun a => Fin.ext (by match a with | ⟨0, _⟩ => rfl | ⟨1, _⟩ => rfl | ⟨2, _⟩ => rfl | ⟨3, _⟩ => rfl)))

theorem max_apply (b : Fin 2) (h : Fin 8) (q : Fin 16384) :
    val_main_v16 (F := Ideal) x0 x1 x2 x3 (ix3 b h q) = top (row x0 x1 x2 x3 b h q) 16384 := by
  rw [val_main_v16_apply, val_main_v15_apply, val_main_cst_2_apply]
  show max (Ideal.ofBits .f32 0xFF800000#32) _ = _
  rw [show Ideal.ofBits .f32 0xFF800000#32 = ⊥ by simp [Ideal.ofBits, Ideal.ieee], max_eq_right bot_le]
  unfold val_main_v14
  refine (fold_apply _ b h q).trans ?_
  rw [← fold_top]
  exact congrArg (Finset.fold max ⊥ · Finset.univ) (funext fun k => masked_apply x0 x1 x2 x3 b h q k)

theorem exp_apply (b : Fin 2) (h : Fin 8) (q k : Fin 16384) :
    val_main_v20 (F := Ideal) x0 x1 x2 x3 (ix4 b h q k)
      = Ideal.exp (row x0 x1 x2 x3 b h q k.val - top (row x0 x1 x2 x3 b h q) 16384) := by
  rw [val_main_v20_apply, val_main_v19_apply, masked_apply, val_main_v18_apply, val_main_v17_apply]
  refine Eq.trans ?_ (congrArg (fun z => Ideal.exp (row x0 x1 x2 x3 b h q k.val - z)) (max_apply x0 x1 x2 x3 b h q))
  exact congrArg (fun i => Ideal.exp (row x0 x1 x2 x3 b h q k.val - val_main_v16 (F := Ideal) x0 x1 x2 x3 i)) (funext fun a => by fin_cases a <;> rfl)

theorem sum_apply (b : Fin 2) (h : Fin 8) (q : Fin 16384) :
    val_main_v21 (F := Ideal) x0 x1 x2 x3 (ix3 b h q)
      = acc (fun _ => 1) (row x0 x1 x2 x3 b h q) 16384 (top (row x0 x1 x2 x3 b h q) 16384) := by
  rw [val_main_v21_apply, val_main_cst_3_apply]
  show Ideal.ofBits .f32 0x00000000#32 + _ = _
  rw [Ideal.ofBits_zero_f32, zero_add, acc, ← Fin.sum_univ_eq_sum_range (fun j => 1 * Ideal.exp (row x0 x1 x2 x3 b h q j - top (row x0 x1 x2 x3 b h q) 16384))]
  refine Finset.sum_congr rfl fun k _ => ?_
  rw [one_mul, ← exp_apply]
  exact congrArg _ (funext fun a => by fin_cases a <;> rfl)

theorem prob_apply (b : Fin 2) (h : Fin 8) (q k : Fin 16384) :
    val_main_v24 (F := Ideal) x0 x1 x2 x3 (ix4 b h q k)
      = Ideal.div (Ideal.exp (row x0 x1 x2 x3 b h q k.val - top (row x0 x1 x2 x3 b h q) 16384))
        (acc (fun _ => 1) (row x0 x1 x2 x3 b h q) 16384 (top (row x0 x1 x2 x3 b h q) 16384)) := by
  rw [val_main_v24_apply, exp_apply, val_main_v23_apply, val_main_v22_apply, ← sum_apply]
  exact congrArg (fun i => Ideal.div _ (val_main_v21 (F := Ideal) x0 x1 x2 x3 i)) (funext fun a => by fin_cases a <;> rfl)

/-- The reference's result is the attention. -/
theorem result_apply (b : Fin 2) (h : Fin 8) (d : Fin 64) (q : Fin 16384) :
    val_main_v29 (F := Ideal) x0 x1 x2 x3 x4 (ix3 b ⟨64 * h.val + d.val, by omega⟩ q)
      = attention (heads64 x0) (heads32 x1) (heads64 x2) (shared32 x3) (heads64 x4) b h d q := by
  rw [val_main_v29_apply, val_main_v28_apply, val_main_v27_apply, val_main_v26_apply]
  have e : idx_main_v26 (idx_main_v27 (idx_main_v28 (ix3 b ⟨64 * h.val + d.val, by omega⟩ q))) = ix4 b h d q := by
    have hb := b.isLt
    have hh := h.isLt
    have hd := d.isLt
    have hq := q.isLt
    funext a
    fin_cases a
    · exact Fin.ext (show ((b.val * 16384 + q.val) * 512 + (64 * h.val + d.val)) / 8388608 = b.val by omega)
    · exact Fin.ext (show ((b.val * 16384 + q.val) * 512 + (64 * h.val + d.val)) / 64 % 8 = h.val by omega)
    · exact Fin.ext (show ((b.val * 16384 + q.val) * 512 + (64 * h.val + d.val)) % 64 = d.val by omega)
    · exact Fin.ext (show ((b.val * 16384 + q.val) * 512 + (64 * h.val + d.val)) / 512 % 16384 = q.val by omega)
  rw [e]
  show val_main_v25 (F := Ideal) x0 x1 x2 x3 x4 (ix4 b h d q) = _
  rw [val_main_v25_apply, attention, ← Fin.sum_univ_eq_sum_range (fun j => valueAt (heads64 x4) b h d j *
    Ideal.div (Ideal.exp (row x0 x1 x2 x3 b h q j - top (row x0 x1 x2 x3 b h q) 16384))
      (acc (fun _ => 1) (row x0 x1 x2 x3 b h q) 16384 (top (row x0 x1 x2 x3 b h q) 16384)))]
  refine Finset.sum_congr rfl fun k _ => ?_
  rw [← prob_apply, valueAt, dif_pos k.isLt]
  exact congrArg₂ (· * ·) (congrArg x4 (funext fun a => by fin_cases a <;> rfl)) (congrArg _ (funext fun a => by fin_cases a <;> rfl))

end Cert.Reference

end
-- ==== Proof.Heads.lean ====
/- The stores of every head's part of the running arrays, and the loads of one head's part, read at an index. -/
module

public import proofs.«01_k».proof.Proof.Gen.KernelIdeal.Frame
public import proofs.«01_k».proof.Proof.Tile
public import Idealize.ShloMosaic.Lib.Pipeline.ValueKit
public import Idealize.ShloMosaic.Lib.Pipeline.ReadBack

@[expose] public section

noncomputable section

namespace Cert.Attn

open Idealize.ShloMosaic hiding ix1 ix2 ix3 ix4
open Idealize.ShloMosaic.ValueIdx Idealize.ShloMosaic.TcCoe Cert.KernelIdeal Cert.KernelIdeal.Gen

/-! ## Loads of one head's part -/

theorem inb_row (h : Fin 8) : ∀ a, (![h.val, 0] : Fin 2 → ℕ) a + (![1, 256] : Fin 2 → ℕ) a ≤ S8x256.size a := fun a => by
  match a with
  | ⟨0, _⟩ => show h.val + 1 ≤ 8; omega
  | ⟨1, _⟩ => exact le_refl 256

theorem inb_acc (h : Fin 8) : ∀ a, (![64 * h.val, 0] : Fin 2 → ℕ) a + (![64, 256] : Fin 2 → ℕ) a ≤ S512x256.size a := fun a => by
  match a with
  | ⟨0, _⟩ => show 64 * h.val + 64 ≤ 512; omega
  | ⟨1, _⟩ => exact le_refl 256

theorem inb_val (h : Fin 8) : ∀ a, (![0, 64 * h.val, 0] : Fin 3 → ℕ) a + (![1, 64, 512] : Fin 3 → ℕ) a ≤ S1x512x512.size a := fun a => by
  match a with
  | ⟨0, _⟩ => exact le_refl 1
  | ⟨1, _⟩ => show 64 * h.val + 64 ≤ 512; omega
  | ⟨2, _⟩ => exact le_refl 512

theorem inb_out (h : Fin 8) : ∀ a, (![0, 64 * h.val, 0] : Fin 3 → ℕ) a + (![1, 64, 256] : Fin 3 → ℕ) a ≤ S1x512x256.size a := fun a => by
  match a with
  | ⟨0, _⟩ => exact le_refl 1
  | ⟨1, _⟩ => show 64 * h.val + 64 ≤ 512; omega
  | ⟨2, _⟩ => exact le_refl 256

theorem inb_query (h : Fin 8) : ∀ a, (![0, 96 * h.val, 0] : Fin 3 → ℕ) a + (![1, 96, 256] : Fin 3 → ℕ) a ≤ S1x768x256.size a := fun a => by
  match a with
  | ⟨0, _⟩ => exact le_refl 1
  | ⟨1, _⟩ => show 96 * h.val + 96 ≤ 768; omega
  | ⟨2, _⟩ => exact le_refl 256

theorem inb_key (h : Fin 8) : ∀ a, (![0, h.val, 0, 0] : Fin 4 → ℕ) a + (![1, 1, 512, 96] : Fin 4 → ℕ) a ≤ S1x8x512x96.size a := fun a => by
  match a with
  | ⟨0, _⟩ => exact le_refl 1
  | ⟨1, _⟩ => show h.val + 1 ≤ 8; omega
  | ⟨2, _⟩ => exact le_refl 512
  | ⟨3, _⟩ => exact le_refl 96

/-- A head's row of the running maximum or sum. -/
abbrev rowRect (h : Fin 8) : Rect S8x256 := Rect.unit (s := S8x256) ![h.val, 0] ![1, 256] (inb_row h)

/-- A head's rows of the accumulators. -/
abbrev accRect (h : Fin 8) : Rect S512x256 := Rect.unit (s := S512x256) ![64 * h.val, 0] ![64, 256] (inb_acc h)

/-- A head's rows of the result's block. -/
abbrev outRect (h : Fin 8) : Rect S1x512x256 := Rect.unit (s := S1x512x256) ![0, 64 * h.val, 0] ![1, 64, 256] (inb_out h)

def rowLd (x : Vec Ideal S8x256 .f32) (h : Fin 8) : FVec Ideal S1x256 .f32 := View.ld x (rowRect h)

def accLd (x : Vec Ideal S512x256 .f32) (h : Fin 8) : FVec Ideal S64x256 .f32 := View.ld x (accRect h)

def valLd (x : Vec Ideal S1x512x512 .bf16) (h : Fin 8) : FVec Ideal S1x64x512 .bf16 :=
  View.ld x (Rect.unit (s := S1x512x512) ![0, 64 * h.val, 0] ![1, 64, 512] (inb_val h))

/-- A head's scores of a tile. -/
def scoreLd (x0 : Vec Ideal S1x768x256 .bf16) (x1 : Vec Ideal S1x8x512x96 .bf16) (h : Fin 8) : FVec Ideal S512x256 .f32 :=
  score (View.ld x1 (Rect.unit (s := S1x8x512x96) ![0, h.val, 0, 0] ![1, 1, 512, 96] (inb_key h)))
    (View.ld x0 (Rect.unit (s := S1x768x256) ![0, 96 * h.val, 0] ![1, 96, 256] (inb_query h)))

theorem scoreLd_apply (x0 : Vec Ideal S1x768x256 .bf16) (x1 : Vec Ideal S1x8x512x96 .bf16) (h : Fin 8)
    (j : Fin 512) (b : Fin 256) : scoreLd x0 x1 h (ix2 j b) = tile x0 x1 h j b := by
  refine (score_apply _ _ j b).trans (Finset.sum_congr rfl fun e _ => congrArg₂ (· * ·) ?_ ?_)
  · refine congrArg x1 (funext fun a => Fin.ext ?_)
    match a with
    | ⟨0, _⟩ => rfl
    | ⟨1, _⟩ => show h.val + 1 * 0 = h.val; omega
    | ⟨2, _⟩ => show 0 + 1 * j.val = j.val; omega
    | ⟨3, _⟩ => show 0 + 1 * e.val = e.val; omega
  · refine congrArg x0 (funext fun a => Fin.ext ?_)
    match a with
    | ⟨0, _⟩ => rfl
    | ⟨1, _⟩ => show 96 * h.val + 1 * e.val = 96 * h.val + e.val; omega
    | ⟨2, _⟩ => show 0 + 1 * b.val = b.val; omega

theorem masked_scoreLd_apply (p : IVec S512x256 1) (x0 : Vec Ideal S1x768x256 .bf16) (x1 : Vec Ideal S1x8x512x96 .bf16) (h : Fin 8)
    (j : Fin 512) (b : Fin 256) : masked p (scoreLd x0 x1 h) (ix2 j b) = hide p (tile x0 x1) h j b := by
  rw [masked_apply, scoreLd_apply, hide]

theorem rowLd_apply {X x : Vec Ideal S8x256 .f32} (e : X = x) (h : Fin 8) (b : Fin 256) : rowLd X h (ix2 0 b) = rows x h b := by
  subst e
  refine congrArg X (funext fun a => Fin.ext ?_)
  match a with
  | ⟨0, _⟩ => show h.val + 1 * 0 = h.val; omega
  | ⟨1, _⟩ => show 0 + 1 * b.val = b.val; omega

theorem accLd_apply {X x : Vec Ideal S512x256 .f32} (e : X = x) (h : Fin 8) (d : Fin 64) (b : Fin 256) :
    accLd X h (ix2 d b) = accs x h d b := by
  subst e
  refine congrArg X (funext fun a => Fin.ext ?_)
  match a with
  | ⟨0, _⟩ => show 64 * h.val + 1 * d.val = 64 * h.val + d.val; omega
  | ⟨1, _⟩ => show 0 + 1 * b.val = b.val; omega

theorem valLd_apply (x : Vec Ideal S1x512x512 .bf16) (h : Fin 8) (d : Fin 64) (j : Fin 512) : valLd x h (ix3 0 d j) = vals x h d j := by
  refine congrArg x (funext fun a => Fin.ext ?_)
  match a with
  | ⟨0, _⟩ => rfl
  | ⟨1, _⟩ => show 64 * h.val + 1 * d.val = 64 * h.val + d.val; omega
  | ⟨2, _⟩ => show 0 + 1 * j.val = j.val; omega

/-! ## Stores of every head's part -/

/-- The running maximum or sum as an array. -/
def ofRows (g : Fin 8 → Fin 256 → EReal) : S8x256.Idx → Elt Ideal .f32 := fun y => g (y 0) (y 1)

/-- The accumulators as an array. -/
def ofAccs (g : Fin 8 → Fin 64 → Fin 256 → EReal) : S512x256.Idx → Elt Ideal .f32 :=
  fun y => g ⟨(y 0).val / 64, Nat.div_lt_of_lt_mul (y 0).isLt⟩ ⟨(y 0).val % 64, Nat.mod_lt _ (by decide)⟩ (y 1)

/-- The result's block as an array. -/
def ofOut (g : Fin 8 → Fin 64 → Fin 256 → EReal) : S1x512x256.Idx → Elt Ideal .bf16 :=
  fun y => g ⟨(y 1).val / 64, Nat.div_lt_of_lt_mul (y 1).isLt⟩ ⟨(y 1).val % 64, Nat.mod_lt _ (by decide)⟩ (y 2)

/-- A row stored at its head's place is that row of the whole. -/
theorem row_piece (g : Fin 8 → Fin 256 → EReal) (h : Fin 8) (X : FVec Ideal S1x256 .f32) (hX : ∀ b, X (ix2 0 b) = g h b)
    (x : S1x256.Idx) : X x = ofRows g ((rowRect h).emb x) := by
  have e : x = ix2 0 (x 1) := by
    funext a
    match a with
    | ⟨0, _⟩ => exact Subsingleton.elim (α := Fin 1) _ _
    | ⟨1, _⟩ => rfl
  refine (congrArg X e).trans ((hX (x 1)).trans ?_)
  refine congrArg₂ g (Fin.ext ?_) (Fin.ext ?_)
  · have hx : (x 0).val = 0 := congrArg Fin.val (congrFun e 0)
    show h.val = h.val + 1 * (x 0).val; omega
  · show (x 1).val = 0 + 1 * (x 1).val; omega

/-- The accumulators stored at their head's place are those of the whole. -/
theorem acc_piece (g : Fin 8 → Fin 64 → Fin 256 → EReal) (h : Fin 8) (X : FVec Ideal S64x256 .f32) (hX : ∀ d b, X (ix2 d b) = g h d b)
    (x : S64x256.Idx) : X x = ofAccs g ((accRect h).emb x) := by
  have e : x = ix2 (x 0) (x 1) := by
    funext a
    match a with
    | ⟨0, _⟩ => rfl
    | ⟨1, _⟩ => rfl
  refine (congrArg X e).trans ((hX (x 0) (x 1)).trans ?_)
  have hx : (x 0).val < 64 := (x 0).isLt
  have e1 : h = ⟨(64 * h.val + 1 * (x 0).val) / 64, by omega⟩ := Fin.ext (show h.val = (64 * h.val + 1 * (x 0).val) / 64 by omega)
  have e2 : (x 0 : Fin 64) = ⟨(64 * h.val + 1 * (x 0).val) % 64, by omega⟩ := Fin.ext (show (x 0).val = (64 * h.val + 1 * (x 0).val) % 64 by omega)
  have e3 : (x 1 : Fin 256) = ⟨0 + 1 * (x 1).val, by have : (x 1).val < 256 := (x 1).isLt; omega⟩ := Fin.ext (show (x 1).val = 0 + 1 * (x 1).val by omega)
  exact (congrArg₂ (fun a b => g a b (x 1)) e1 e2).trans (congrArg (g _ _) e3)

/-- A head's results stored at its place are those of the whole. -/
theorem out_piece (g : Fin 8 → Fin 64 → Fin 256 → EReal) (h : Fin 8) (X : FVec Ideal S1x64x256 .bf16) (hX : ∀ d b, X (ix3 0 d b) = g h d b)
    (x : S1x64x256.Idx) : X x = ofOut g ((outRect h).emb x) := by
  have e : x = ix3 0 (x 1) (x 2) := by
    funext a
    match a with
    | ⟨0, _⟩ => exact Subsingleton.elim (α := Fin 1) _ _
    | ⟨1, _⟩ => rfl
    | ⟨2, _⟩ => rfl
  refine (congrArg X e).trans ((hX (x 1) (x 2)).trans ?_)
  have hx : (x 1).val < 64 := (x 1).isLt
  have e1 : h = ⟨(64 * h.val + 1 * (x 1).val) / 64, by omega⟩ := Fin.ext (show h.val = (64 * h.val + 1 * (x 1).val) / 64 by omega)
  have e2 : (x 1 : Fin 64) = ⟨(64 * h.val + 1 * (x 1).val) % 64, by omega⟩ := Fin.ext (show (x 1).val = (64 * h.val + 1 * (x 1).val) % 64 by omega)
  have e3 : (x 2 : Fin 256) = ⟨0 + 1 * (x 2).val, by have : (x 2).val < 256 := (x 2).isLt; omega⟩ := Fin.ext (show (x 2).val = 0 + 1 * (x 2).val by omega)
  exact (congrArg₂ (fun a b => g a b (x 2)) e1 e2).trans (congrArg (g _ _) e3)

theorem ofAccs_apply (g : Fin 8 → Fin 64 → Fin 256 → EReal) (h : Fin 8) (d : Fin 64) (b : Fin 256) :
    ofAccs g (ix2 (row64 h d) b) = g h d b :=
  congrArg₂ (fun x y => g x y b) (Fin.ext (show (64 * h.val + d.val) / 64 = h.val by omega)) (Fin.ext (show (64 * h.val + d.val) % 64 = d.val by omega))

theorem ofOut_apply (g : Fin 8 → Fin 64 → Fin 256 → EReal) (h : Fin 8) (d : Fin 64) (b : Fin 256) :
    ofOut g (ix3 0 (row64 h d) b) = g h d b :=
  congrArg₂ (fun x y => g x y b) (Fin.ext (show (64 * h.val + d.val) / 64 = h.val by omega)) (Fin.ext (show (64 * h.val + d.val) % 64 = d.val by omega))

/-- The stores of every head's part. -/
def rowsPieces (X : Fin 8 → FVec Ideal S1x256 .f32) : List (View.Piece (Elt Ideal) S8x256 .f32) :=
  [⟨rowRect 7, X 7⟩, ⟨rowRect 6, X 6⟩, ⟨rowRect 5, X 5⟩, ⟨rowRect 4, X 4⟩, ⟨rowRect 3, X 3⟩, ⟨rowRect 2, X 2⟩, ⟨rowRect 1, X 1⟩, ⟨rowRect 0, X 0⟩]

/-- Every head's rows, stored at their heads' places over any earlier stores, at an index. -/
theorem canon_rows (g : Fin 8 → Fin 256 → EReal) (X : Fin 8 → FVec Ideal S1x256 .f32) (hX : ∀ h b, X h (ix2 0 b) = g h b) (L : List (View.Piece (Elt Ideal) S8x256 .f32))
    (h : Fin 8) (b : Fin 256) :
    View.canon (rowsPieces X ++ L) (ix2 h b) = g h b := by
  refine (View.canon_append_of_piecesOf (ofRows g) L (rowsPieces X) ?_ (ix2 h b) ?_).trans rfl
  · exact ⟨row_piece g 7 _ (hX 7), row_piece g 6 _ (hX 6), row_piece g 5 _ (hX 5), row_piece g 4 _ (hX 4), row_piece g 3 _ (hX 3), row_piece g 2 _ (hX 2), row_piece g 1 _ (hX 1), row_piece g 0 _ (hX 0), trivial⟩
  · exact View.cover_of_tiledL (s := S8x256) (rowsPieces X) S1x256.size (by sl_kernel_rfl) (ix2 h b)

/-- The stores of every head's part. -/
def accsPieces (X : Fin 8 → FVec Ideal S64x256 .f32) : List (View.Piece (Elt Ideal) S512x256 .f32) :=
  [⟨accRect 7, X 7⟩, ⟨accRect 6, X 6⟩, ⟨accRect 5, X 5⟩, ⟨accRect 4, X 4⟩, ⟨accRect 3, X 3⟩, ⟨accRect 2, X 2⟩, ⟨accRect 1, X 1⟩, ⟨accRect 0, X 0⟩]

/-- Every head's accumulators, stored at their heads' places over any earlier stores, at an index. -/
theorem canon_accs (g : Fin 8 → Fin 64 → Fin 256 → EReal) (X : Fin 8 → FVec Ideal S64x256 .f32) (hX : ∀ h d b, X h (ix2 d b) = g h d b) (L : List (View.Piece (Elt Ideal) S512x256 .f32))
    (h : Fin 8) (d : Fin 64) (b : Fin 256) :
    View.canon (accsPieces X ++ L) (ix2 (row64 h d) b) = g h d b := by
  refine (View.canon_append_of_piecesOf (ofAccs g) L (accsPieces X) ?_ (ix2 (row64 h d) b) ?_).trans (ofAccs_apply g h d b)
  · exact ⟨acc_piece g 7 _ (hX 7), acc_piece g 6 _ (hX 6), acc_piece g 5 _ (hX 5), acc_piece g 4 _ (hX 4), acc_piece g 3 _ (hX 3), acc_piece g 2 _ (hX 2), acc_piece g 1 _ (hX 1), acc_piece g 0 _ (hX 0), trivial⟩
  · exact View.cover_of_tiledL (s := S512x256) (accsPieces X) S64x256.size (by sl_kernel_rfl) (ix2 (row64 h d) b)

/-- The stores of every head's part. -/
def outsPieces (X : Fin 8 → FVec Ideal S1x64x256 .bf16) : List (View.Piece (Elt Ideal) S1x512x256 .bf16) :=
  [⟨outRect 7, X 7⟩, ⟨outRect 6, X 6⟩, ⟨outRect 5, X 5⟩, ⟨outRect 4, X 4⟩, ⟨outRect 3, X 3⟩, ⟨outRect 2, X 2⟩, ⟨outRect 1, X 1⟩, ⟨outRect 0, X 0⟩]

/-- Every head's results, stored at their heads' places over any earlier stores, at an index. -/
theorem canon_outs (g : Fin 8 → Fin 64 → Fin 256 → EReal) (X : Fin 8 → FVec Ideal S1x64x256 .bf16) (hX : ∀ h d b, X h (ix3 0 d b) = g h d b) (L : List (View.Piece (Elt Ideal) S1x512x256 .bf16))
    (h : Fin 8) (d : Fin 64) (b : Fin 256) :
    View.canon (outsPieces X ++ L) (ix3 0 (row64 h d) b) = g h d b := by
  refine (View.canon_append_of_piecesOf (ofOut g) L (outsPieces X) ?_ (ix3 0 (row64 h d) b) ?_).trans (ofOut_apply g h d b)
  · exact ⟨out_piece g 7 _ (hX 7), out_piece g 6 _ (hX 6), out_piece g 5 _ (hX 5), out_piece g 4 _ (hX 4), out_piece g 3 _ (hX 3), out_piece g 2 _ (hX 2), out_piece g 1 _ (hX 1), out_piece g 0 _ (hX 0), trivial⟩
  · exact View.cover_of_tiledL (s := S1x512x256) (outsPieces X) S1x64x256.size (by sl_kernel_rfl) (ix3 0 (row64 h d) b)

end Cert.Attn

end
-- ==== Proof.State.lean ====
/- The stores of every head's part of the running arrays, and the loads of one head's part, read at an index. -/
/- What a grid point leaves of the running arrays, and the two facts about it that the grid points' cases show. -/
module

public import proofs.«01_k».proof.Proof.Gen.KernelIdeal.Frame
public import proofs.«01_k».proof.Proof.Heads
public import Idealize.ShloMosaic.Lib.Pipeline.ValueKit
public import Idealize.ShloMosaic.Lib.Pipeline.ReadBack

@[expose] public section

noncomputable section

namespace Cert.Attn

open Idealize.ShloMosaic hiding ix1 ix2 ix3 ix4
open Idealize.ShloMosaic.ValueIdx Idealize.ShloMosaic.TcCoe Cert.KernelIdeal Cert.KernelIdeal.Gen

/-- What a grid point leaves: the result's block and the three running arrays. -/
abbrev State : Type := Vec Ideal S1x512x256 .bf16 × Vec Ideal S8x256 .f32 × Vec Ideal S8x256 .f32 × Vec Ideal S512x256 .f32

/-- The three running arrays after one step with scores `s` and values `v`, from `m`, `l` and `a`. -/
structure Stepped (s : Fin 8 → Fin 512 → Fin 256 → EReal) (v : Fin 8 → Fin 64 → Fin 512 → EReal) (m l : Fin 8 → Fin 256 → EReal)
    (a : Fin 8 → Fin 64 → Fin 256 → EReal) (st : State) : Prop where
  max : ∀ h b, rows st.2.1 h b = stepMax s m h b
  sum : ∀ h b, rows st.2.2.1 h b = stepSum s m l h b
  acc : ∀ h d b, accs st.2.2.2 h d b = stepAcc s m v a h d b

/-- The result's block holds the accumulators over the running sum. -/
def Divided (st : State) : Prop :=
  ∀ h d b, st.1 (ix3 0 (row64 h d) b) = accs st.2.2.2 h d b * Ideal.div 1 (rows st.2.2.1 h b)

/-- The running maximum before the first step. -/
abbrev initMax : Vec Ideal S8x256 .f32 := k0_pay129 (F := Ideal)

/-- The running sum before the first step. -/
abbrev initSum : Vec Ideal S8x256 .f32 := k0_pay130 (F := Ideal)

/-- The accumulators before the first step. -/
abbrev initAcc : Vec Ideal S512x256 .f32 := k0_pay131 (F := Ideal)

theorem rows_initMax (h : Fin 8) (b : Fin 256) : rows initMax h b = ⊥ := initMax_apply _

theorem rows_initSum (h : Fin 8) (b : Fin 256) : rows initSum h b = 0 := initSum_apply _

theorem accs_initAcc (h : Fin 8) (d : Fin 64) (b : Fin 256) : accs initAcc h d b = 0 := initAcc_apply _

end Cert.Attn

end
-- ==== Proof.Mask.lean ====
/- The stores of every head's part of the running arrays, and the loads of one head's part, read at an index. -/
/- The mask of a grid point whose keys and queries overlap. -/
module

public import proofs.«01_k».proof.Proof.Gen.KernelIdeal.Value
public import proofs.«01_k».proof.Proof.State
public import Idealize.ShloMosaic.Lib.Pipeline.ValueKit
public import Idealize.ShloMosaic.Lib.Pipeline.ReadBack

@[expose] public section

noncomputable section

namespace Cert.Attn

open Idealize.ShloMosaic hiding ix1 ix2 ix3 ix4
open Idealize.ShloMosaic.ValueIdx Idealize.ShloMosaic.TcCoe Cert.KernelIdeal Cert.KernelIdeal.Gen Cert.KernelIdeal.Value

/-- The mask of a grid point on the diagonal. -/
def diagMask (t : Fin cfg0.N) : IVec S512x256 1 := k0_pay62 (BitVec.ofNat 32 (grid0.coords t 1).val) (BitVec.ofNat 32 (grid0.coords t 2).val)

end Cert.Attn

end
-- ==== Proof.Places.lean ====
/- The grid's coordinates, the tiles the index maps name, and the mask of a grid point, by numbers. -/
module

public import proofs.«01_k».proof.Proof.Mask
public import proofs.«01_k».proof.Proof.Attention
public import Idealize.ShloMosaic.Lib.WordCmp

@[expose] public section

noncomputable section

namespace Cert.Attn

open Idealize.ShloMosaic hiding ix1 ix2 ix3 ix4
open Idealize.ShloMosaic.ValueIdx Idealize.ShloMosaic.TcCoe Cert.KernelIdeal Cert.KernelIdeal.Gen

/-! ## Where a grid point reads -/

/-- The sequence of a grid point. -/
def bOf (n : ℕ) : Fin 2 := ⟨n / 2048 % 2, Nat.mod_lt _ (by decide)⟩

/-- The query of a grid point at a column. -/
def qOf (n : ℕ) (b : Fin 256) : Fin 16384 := ⟨256 * (n / 32 % 64) + b.val, by omega⟩

/-- The key of a grid point at a row: its own tile's, or the last one that its queries reach. -/
def kOf (n : ℕ) (j : Fin 512) : Fin 16384 := ⟨512 * min (n % 32) (n / 32 % 64 / 2) + j.val, by omega⟩

/-- The grid's coordinates with a given query tile and key tile. -/
def tileAt (a : Fin 64) (k : Fin 32) : grid0.Coords := fun
  | ⟨0, _⟩ => (0 : Fin 2)
  | ⟨1, _⟩ => a
  | ⟨2, _⟩ => k

theorem keyTile_word : ∀ a : Fin 64, ∀ k : Fin 32, cc0_transform_1 (tileAt a k) 2 = min k.val (a.val / 2) := by
  decide +kernel

theorem coord_sequence (t : Fin cfg0.N) : (grid0.coords t 0).val = t.val / 2048 % 2 := Pipeline.Grid.coords_val t 0 (by decide) rfl

theorem coord_query (t : Fin cfg0.N) : (grid0.coords t 1).val = t.val / 32 % 64 := Pipeline.Grid.coords_val t 1 (by decide) rfl

theorem coord_key (t : Fin cfg0.N) : (grid0.coords t 2).val = t.val % 32 := by
  have e : (grid0.coords t 2).val = t.val / 1 % 32 := Pipeline.Grid.coords_val t 2 (by decide) rfl
  rwa [Nat.div_one] at e

theorem small_word {a : ℕ} (h : a < 2 ^ 32) : (BitVec.ofNat 32 a).toNat = a := WordCmp.toNat_ofNat_of_lt h

theorem sequence_word (t : Fin cfg0.N) : (BitVec.ofNat 32 (grid0.coords t 0).val).toNat = t.val / 2048 % 2 := by
  rw [coord_sequence, small_word (by omega)]

theorem query_word (t : Fin cfg0.N) : (BitVec.ofNat 32 (grid0.coords t 1).val).toNat = t.val / 32 % 64 := by
  rw [coord_query, small_word (by omega)]

theorem key_word (t : Fin cfg0.N) : cc0_transform_1 (grid0.coords t) 2 = min (t.val % 32) (t.val / 32 % 64 / 2) := by
  refine (keyTile_word (grid0.coords t 1) (grid0.coords t 2)).trans ?_
  rw [coord_query, coord_key]

theorem index_queries (t : Fin cfg0.N) : win0_0.index t = ![t.val / 2048 % 2, 0, t.val / 32 % 64] := by
  funext a
  match a with
  | ⟨0, _⟩ => exact sequence_word t
  | ⟨1, _⟩ => rfl
  | ⟨2, _⟩ => exact query_word t

theorem index_keys (t : Fin cfg0.N) : win0_1.index t = ![t.val / 2048 % 2, 0, min (t.val % 32) (t.val / 32 % 64 / 2), 0] := by
  funext a
  match a with
  | ⟨0, _⟩ => exact sequence_word t
  | ⟨1, _⟩ => rfl
  | ⟨2, _⟩ => exact key_word t
  | ⟨3, _⟩ => rfl

theorem index_values (t : Fin cfg0.N) : win0_2.index t = ![t.val / 2048 % 2, 0, min (t.val % 32) (t.val / 32 % 64 / 2)] := by
  funext a
  match a with
  | ⟨0, _⟩ => exact sequence_word t
  | ⟨1, _⟩ => rfl
  | ⟨2, _⟩ => exact key_word t

theorem diagMask_apply (t : Fin cfg0.N) (j : Fin 512) (b : Fin 256) :
    diagMask t (ix2 j b) = 1#1 ↔ 512 * (t.val % 32) + j.val ≤ 256 * (t.val / 32 % 64) + b.val := by
  have h := sle_iff (j := 512 * (t.val % 32) + j.val) (q := 256 * (t.val / 32 % 64) + b.val) (by omega) (by omega)
  have w : ∀ a x y : ℕ, BitVec.ofNat 32 x * BitVec.ofNat 32 a + BitVec.ofNat 32 y = BitVec.ofNat 32 (a * x + y) := fun a x y => by
    rw [BitVec.ofNat_add, BitVec.ofNat_mul, BitVec.mul_comm]
  rw [← h, diagMask, coord_query, coord_key, ← w, ← w]
  simp only [k0_pay62, cmpi, addi, broadcast, WordCmp.iota_at, List.foldl_cons, List.foldl_nil, Nat.zero_mul, Nat.zero_add]
  exact Iff.rfl

end Cert.Attn

end
-- ==== Proof.Blocks.lean ====
/- The blocks a grid point reads, by coordinates: its scores are the logits of its queries with its keys, masked where a
   key comes after the query, and its values are the values of its keys. -/
module

public import proofs.«01_k».proof.Proof.Places
public import proofs.«01_k».proof.Proof.Operands

@[expose] public section

noncomputable section

namespace Cert.Attn

open Idealize.ShloMosaic hiding ix1 ix2 ix3 ix4
open Idealize.ShloMosaic.ValueIdx Idealize.ShloMosaic.TcCoe Cert.KernelIdeal Cert.KernelIdeal.Gen

variable (m : (ℓ : Loc nD τ sig) → Buf (Elt Ideal) ℓ) (c : Dev nD)

/-! ## The blocks of a grid point -/

theorem queries_block (t : Fin cfg0.N) : iblk m c 0 t = ((cfg0.win 0).blk t).view.read (Elt Ideal) (V m c main_v5) := rfl

theorem queries_read (t : Fin cfg0.N) (y : S1x768x256.Idx) (W : S2x768x16384.Idx → EReal) :
    (((cfg0.win 0).blk t).view.read (Elt Ideal) W : Vec Ideal S1x768x256 .bf16) y = W (((cfg0.win 0).blk t).view.emb y) := rfl

theorem queries_place (t : Fin cfg0.N) (r : Fin 768) (b : Fin 256) (e : S2x768x16384.Idx)
    (he : ∀ a, (e a : ℕ) = win0_0.index t a * win0_0.size a + ((ix3 0 r b : S1x768x256.Idx) a : ℕ)) :
    e = ix3 (bOf t.val) r (qOf t.val b) := by
  funext a
  refine Fin.ext ((he a).trans ?_)
  rw [index_queries]
  match a with
  | ⟨0, _⟩ => show t.val / 2048 % 2 * 1 + 0 = t.val / 2048 % 2; omega
  | ⟨1, _⟩ => show 0 * 768 + r.val = r.val; omega
  | ⟨2, _⟩ => show t.val / 32 % 64 * 256 + b.val = 256 * (t.val / 32 % 64) + b.val; omega

theorem queries_apply (t : Fin cfg0.N) (r : Fin 768) (b : Fin 256) :
    (iblk m c 0 t : Vec Ideal S1x768x256 .bf16) (ix3 0 r b) = (V m c main_v5 : S2x768x16384.Idx → EReal) (ix3 (bOf t.val) r (qOf t.val b)) := by
  rw [queries_block]
  generalize V m c main_v5 = W
  refine (queries_read t (ix3 0 r b) W).trans (congrArg W ?_)
  exact queries_place t r b _ fun a => Pipeline.Window.rect_emb_val win0_0 t (ix3 0 r b) a

theorem keys_apply (t : Fin cfg0.N) (h : Fin 8) (j : Fin 512) (e : Fin 96) :
    (iblk m c 1 t : Vec Ideal S1x8x512x96 .bf16) (ix4 0 h j e) = (V m c main_v10 : S2x8x16384x96.Idx → EReal) (ix4 (bOf t.val) h (kOf t.val j) e) := by
  refine congrArg (V m c main_v10 : S2x8x16384x96.Idx → EReal) (funext fun a => Fin.ext ?_)
  match a with
  | ⟨0, _⟩ =>
    refine (Pipeline.Window.rect_emb_val win0_1 t (ix4 0 h j e) 0).trans ?_
    rw [index_keys]; show t.val / 2048 % 2 * 1 + 0 = t.val / 2048 % 2; omega
  | ⟨1, _⟩ =>
    refine (Pipeline.Window.rect_emb_val win0_1 t (ix4 0 h j e) 1).trans ?_
    rw [index_keys]; show 0 * 8 + h.val = h.val; omega
  | ⟨2, _⟩ =>
    refine (Pipeline.Window.rect_emb_val win0_1 t (ix4 0 h j e) 2).trans ?_
    rw [index_keys]; show min (t.val % 32) (t.val / 32 % 64 / 2) * 512 + j.val = 512 * min (t.val % 32) (t.val / 32 % 64 / 2) + j.val; omega
  | ⟨3, _⟩ =>
    refine (Pipeline.Window.rect_emb_val win0_1 t (ix4 0 h j e) 3).trans ?_
    rw [index_keys]; show 0 * 96 + e.val = e.val; omega

theorem values_apply (t : Fin cfg0.N) (r : Fin 512) (j : Fin 512) :
    (iblk m c 2 t : Vec Ideal S1x512x512 .bf16) (ix3 0 r j) = (V m c main_v13 : S2x512x16384.Idx → EReal) (ix3 (bOf t.val) r (kOf t.val j)) := by
  refine congrArg (V m c main_v13 : S2x512x16384.Idx → EReal) (funext fun a => Fin.ext ?_)
  match a with
  | ⟨0, _⟩ =>
    refine (Pipeline.Window.rect_emb_val win0_2 t (ix3 0 r j) 0).trans ?_
    rw [index_values]; show t.val / 2048 % 2 * 1 + 0 = t.val / 2048 % 2; omega
  | ⟨1, _⟩ =>
    refine (Pipeline.Window.rect_emb_val win0_2 t (ix3 0 r j) 1).trans ?_
    rw [index_values]; show 0 * 512 + r.val = r.val; omega
  | ⟨2, _⟩ =>
    refine (Pipeline.Window.rect_emb_val win0_2 t (ix3 0 r j) 2).trans ?_
    rw [index_values]; show min (t.val % 32) (t.val / 32 % 64 / 2) * 512 + j.val = 512 * min (t.val % 32) (t.val / 32 % 64 / 2) + j.val; omega

/-! ## The scores and the values of a grid point -/

/-- The logits of the query at a column. -/
abbrev rowOf (n : ℕ) (h : Fin 8) (b : Fin 256) : ℕ → EReal :=
  logit (qNope m c) (qRope m c) (kNope m c) (kRope m c) (bOf n) h (qOf n b)

theorem tile_apply (t : Fin cfg0.N) (h : Fin 8) (j : Fin 512) (b : Fin 256) :
    tile (iblk m c 0 t) (iblk m c 1 t) h j b
      = dots (qNope m c) (qRope m c) (kNope m c) (kRope m c) (bOf t.val) h (qOf t.val b) (kOf t.val j) * scale := by
  rw [← feats_dots]
  refine Finset.sum_congr rfl fun e _ => congrArg₂ (· * ·) ?_ ?_
  · exact (keys_apply m c t h j e).trans (key_entry m c _ h _ e)
  · exact (queries_apply m c t (row96 h e) b).trans (query_entry m c _ h _ e)

theorem vals_apply (t : Fin cfg0.N) (h : Fin 8) (d : Fin 64) (j : Fin 512) :
    vals (iblk m c 2 t) h d j = value m c (bOf t.val) (kOf t.val j) h d :=
  (values_apply m c t (row64 h d) j).trans (value_entry m c _ h d _)

/-- The values of a grid point that its queries reach, by the key's number. -/
theorem vals_tile (t : Fin cfg0.N) (hk : t.val % 32 ≤ t.val / 32 % 64 / 2) (h : Fin 8) (d : Fin 64) (j : Fin 512) :
    vals (iblk m c 2 t) h d j = valueAt (value m c) (bOf t.val) h d (512 * (t.val % 32) + j.val) := by
  rw [vals_apply, valueAt, dif_pos (by omega)]
  exact congrArg (fun k => value m c (bOf t.val) k h d) (Fin.ext (show 512 * min (t.val % 32) (t.val / 32 % 64 / 2) + j.val = _ by rw [Nat.min_eq_left hk]))

/-- Where every key precedes every query, the scores are the logits. -/
theorem tile_full (t : Fin cfg0.N) (h1 : 2 * (t.val % 32) + 2 ≤ t.val / 32 % 64) (h : Fin 8) (j : Fin 512) (b : Fin 256) :
    tile (iblk m c 0 t) (iblk m c 1 t) h j b = rowOf m c t.val h b (512 * (t.val % 32) + j.val) := by
  have hk : kOf t.val j = ⟨512 * (t.val % 32) + j.val, by omega⟩ :=
    Fin.ext (show 512 * min (t.val % 32) (t.val / 32 % 64 / 2) + j.val = _ by rw [Nat.min_eq_left (by omega)])
  rw [tile_apply, hk, rowOf, logit, dif_pos (by omega), if_pos (show _ ≤ (qOf t.val b).val from (show 512 * (t.val % 32) + j.val ≤ 256 * (t.val / 32 % 64) + b.val by omega))]

/-- Where keys and queries overlap, the masked scores are the logits. -/
theorem tile_diag (t : Fin cfg0.N) (h2 : 2 * (t.val % 32) ≤ t.val / 32 % 64 ∧ t.val / 32 % 64 ≤ 2 * (t.val % 32) + 1)
    (h : Fin 8) (j : Fin 512) (b : Fin 256) :
    hide (diagMask t) (tile (iblk m c 0 t) (iblk m c 1 t)) h j b = rowOf m c t.val h b (512 * (t.val % 32) + j.val) := by
  have hk : kOf t.val j = ⟨512 * (t.val % 32) + j.val, by omega⟩ :=
    Fin.ext (show 512 * min (t.val % 32) (t.val / 32 % 64 / 2) + j.val = _ by rw [Nat.min_eq_left (by omega)])
  rw [hide, tile_apply, hk, rowOf, logit, dif_pos (by omega)]
  by_cases hm : 512 * (t.val % 32) + j.val ≤ 256 * (t.val / 32 % 64) + b.val
  · rw [if_pos ((diagMask_apply t j b).mpr hm), if_pos (show _ ≤ (qOf t.val b).val from hm)]
  · rw [if_neg (fun e => hm ((diagMask_apply t j b).mp e)), if_neg (show ¬_ ≤ (qOf t.val b).val from hm)]

end Cert.Attn

end
-- ==== Proof.Full.lean ====
/- The stores of every head's part of the running arrays, and the loads of one head's part, read at an index. -/
/- A grid point whose keys all precede its queries: one step, from the running arrays or from the first ones. -/
module

public import proofs.«01_k».proof.Proof.Gen.KernelIdeal.Value
public import proofs.«01_k».proof.Proof.State
public import Idealize.ShloMosaic.Lib.Pipeline.ValueKit
public import Idealize.ShloMosaic.Lib.Pipeline.ReadBack

@[expose] public section

noncomputable section

namespace Cert.Attn

open Idealize.ShloMosaic hiding ix1 ix2 ix3 ix4
open Idealize.ShloMosaic.ValueIdx Idealize.ShloMosaic.TcCoe Cert.KernelIdeal Cert.KernelIdeal.Gen Cert.KernelIdeal.Value

variable (m : (ℓ : Loc nD τ sig) → Buf (Elt Ideal) ℓ) (c : Dev nD)

/-- Such a grid point, not the first of its queries. -/
theorem stepped_F (t : Fin cfg0.N) (acc : State) (h0 : ¬t.val % 32 = 0) (h1 : 2 * (t.val % 32) + 2 ≤ t.val / 32 % 64)
    (h2 : ¬(2 * (t.val % 32) ≤ t.val / 32 % 64 ∧ t.val / 32 % 64 ≤ 2 * (t.val % 32) + 1)) (h3 : ¬t.val % 32 = 31) :
    Stepped (tile (iblk m c 0 t) (iblk m c 1 t)) (vals (iblk m c 2 t)) (rows acc.2.1) (rows acc.2.2.1) (accs acc.2.2.2) (stAt0 m c t.val t.isLt acc) := by
  rw [stAt0_F m c t acc h0 h1 h2 h3]
  generalize iblk m c 0 t = x0
  generalize iblk m c 1 t = x1
  generalize iblk m c 2 t = x2
  obtain ⟨o, xm, xl, xa⟩ := acc
  refine ⟨fun h b => ?_, fun h b => ?_, fun h d b => ?_⟩
  · unfold rows
    frame_out
    exact canon_rows _ (fun h => maxOut (scoreLd x0 x1 h) (rowLd _ h)) (fun h => maxOut_step (m := rows xm) h (scoreLd_apply x0 x1 h) (rowLd_apply (read_unread_whole cc0_scratch0 _ xm) h)) [] h b
  · unfold rows
    frame_out
    exact canon_rows _ (fun h => sumOut (scoreLd x0 x1 h) (rowLd _ h) (rowLd _ h))
      (fun h => sumOut_step (m := rows xm) (l := rows xl) h (scoreLd_apply x0 x1 h) (rowLd_apply (read_unread_whole cc0_scratch0 _ xm) h) (rowLd_apply (read_unread_whole cc0_scratch1 _ xl) h)) [] h b
  · unfold accs
    frame_out
    exact canon_accs _ (fun h => accOut (scoreLd x0 x1 h) (rowLd _ h) (valLd x2 h) (accLd _ h))
      (fun h => accOut_step (m := rows xm) (a := accs xa) h (scoreLd_apply x0 x1 h) (rowLd_apply (read_unread_whole cc0_scratch0 _ xm) h) (valLd_apply x2 h) (accLd_apply (read_unread_whole cc0_scratch2 _ xa) h)) [] h d b

/-- The first grid point of its queries. -/
theorem stepped_D (t : Fin cfg0.N) (acc : State) (h0 : t.val % 32 = 0) (h1 : 2 * (t.val % 32) + 2 ≤ t.val / 32 % 64)
    (h2 : ¬(2 * (t.val % 32) ≤ t.val / 32 % 64 ∧ t.val / 32 % 64 ≤ 2 * (t.val % 32) + 1)) (h3 : ¬t.val % 32 = 31) :
    Stepped (tile (iblk m c 0 t) (iblk m c 1 t)) (vals (iblk m c 2 t)) (rows initMax) (rows initSum) (accs initAcc) (stAt0 m c t.val t.isLt acc) := by
  rw [stAt0_D m c t acc h0 h1 h2 h3]
  generalize iblk m c 0 t = x0
  generalize iblk m c 1 t = x1
  generalize iblk m c 2 t = x2
  obtain ⟨o, xm, xl, xa⟩ := acc
  refine ⟨fun h b => ?_, fun h b => ?_, fun h d b => ?_⟩
  · unfold rows
    frame_open
    simp (disch := decide) only [↓ View.readCov_skip, ↓ View.readCov_cons_toLoadRect, ↓ View.readCov_fill]
    frame_out
    exact canon_rows _ (fun h => maxOut (scoreLd x0 x1 h) (rowLd initMax h)) (fun h => maxOut_step (m := rows initMax) h (scoreLd_apply x0 x1 h) (rowLd_apply rfl h)) [_] h b
  · unfold rows
    frame_open
    simp (disch := decide) only [↓ View.readCov_skip, ↓ View.readCov_cons_toLoadRect, ↓ View.readCov_fill]
    frame_out
    exact canon_rows _ (fun h => sumOut (scoreLd x0 x1 h) (rowLd initMax h) (rowLd initSum h))
      (fun h => sumOut_step (m := rows initMax) (l := rows initSum) h (scoreLd_apply x0 x1 h) (rowLd_apply rfl h) (rowLd_apply rfl h)) [_] h b
  · unfold accs
    frame_open
    simp (disch := decide) only [↓ View.readCov_skip, ↓ View.readCov_cons_toLoadRect, ↓ View.readCov_fill]
    frame_out
    exact canon_accs _ (fun h => accOut (scoreLd x0 x1 h) (rowLd initMax h) (valLd x2 h) (accLd initAcc h))
      (fun h => accOut_step (m := rows initMax) (a := accs initAcc) h (scoreLd_apply x0 x1 h) (rowLd_apply rfl h) (valLd_apply x2 h) (accLd_apply rfl h)) [_] h d b

end Cert.Attn

end
-- ==== Proof.Diag.lean ====
/- The stores of every head's part of the running arrays, and the loads of one head's part, read at an index. -/
/- A grid point whose keys and queries overlap: one step under the mask, from the running arrays or from the first ones. -/
module

public import proofs.«01_k».proof.Proof.Gen.KernelIdeal.Value
public import proofs.«01_k».proof.Proof.Mask
public import Idealize.ShloMosaic.Lib.Pipeline.ValueKit
public import Idealize.ShloMosaic.Lib.Pipeline.ReadBack

@[expose] public section

noncomputable section

namespace Cert.Attn

open Idealize.ShloMosaic hiding ix1 ix2 ix3 ix4
open Idealize.ShloMosaic.ValueIdx Idealize.ShloMosaic.TcCoe Cert.KernelIdeal Cert.KernelIdeal.Gen Cert.KernelIdeal.Value

variable (m : (ℓ : Loc nD τ sig) → Buf (Elt Ideal) ℓ) (c : Dev nD)

/-- Such a grid point, neither the first nor the last of its queries. -/
theorem stepped_E (t : Fin cfg0.N) (acc : State) (h0 : ¬t.val % 32 = 0) (h1 : ¬2 * (t.val % 32) + 2 ≤ t.val / 32 % 64)
    (h2 : (2 * (t.val % 32) ≤ t.val / 32 % 64 ∧ t.val / 32 % 64 ≤ 2 * (t.val % 32) + 1)) (h3 : ¬t.val % 32 = 31) :
    Stepped (hide (diagMask t) (tile (iblk m c 0 t) (iblk m c 1 t))) (vals (iblk m c 2 t)) (rows acc.2.1) (rows acc.2.2.1) (accs acc.2.2.2) (stAt0 m c t.val t.isLt acc) := by
  rw [stAt0_E m c t acc h0 h1 h2 h3]
  generalize iblk m c 0 t = x0
  generalize iblk m c 1 t = x1
  generalize iblk m c 2 t = x2
  obtain ⟨o, xm, xl, xa⟩ := acc
  refine ⟨fun h b => ?_, fun h b => ?_, fun h d b => ?_⟩
  · unfold rows
    frame_out
    exact canon_rows _ (fun h => maxOut (masked (diagMask t) (scoreLd x0 x1 h)) (rowLd _ h)) (fun h => maxOut_step (m := rows xm) h (masked_scoreLd_apply (diagMask t) x0 x1 h) (rowLd_apply (read_unread_whole cc0_scratch0 _ xm) h)) [] h b
  · unfold rows
    frame_out
    exact canon_rows _ (fun h => sumOut (masked (diagMask t) (scoreLd x0 x1 h)) (rowLd _ h) (rowLd _ h))
      (fun h => sumOut_step (m := rows xm) (l := rows xl) h (masked_scoreLd_apply (diagMask t) x0 x1 h) (rowLd_apply (read_unread_whole cc0_scratch0 _ xm) h) (rowLd_apply (read_unread_whole cc0_scratch1 _ xl) h)) [] h b
  · unfold accs
    frame_out
    exact canon_accs _ (fun h => accOut (masked (diagMask t) (scoreLd x0 x1 h)) (rowLd _ h) (valLd x2 h) (accLd _ h))
      (fun h => accOut_step (m := rows xm) (a := accs xa) h (masked_scoreLd_apply (diagMask t) x0 x1 h) (rowLd_apply (read_unread_whole cc0_scratch0 _ xm) h) (valLd_apply x2 h) (accLd_apply (read_unread_whole cc0_scratch2 _ xa) h)) [] h d b

/-- The first grid point of its queries. -/
theorem stepped_A (t : Fin cfg0.N) (acc : State) (h0 : t.val % 32 = 0) (h1 : ¬2 * (t.val % 32) + 2 ≤ t.val / 32 % 64)
    (h2 : (2 * (t.val % 32) ≤ t.val / 32 % 64 ∧ t.val / 32 % 64 ≤ 2 * (t.val % 32) + 1)) (h3 : ¬t.val % 32 = 31) :
    Stepped (hide (diagMask t) (tile (iblk m c 0 t) (iblk m c 1 t))) (vals (iblk m c 2 t)) (rows initMax) (rows initSum) (accs initAcc) (stAt0 m c t.val t.isLt acc) := by
  rw [stAt0_A m c t acc h0 h1 h2 h3]
  generalize iblk m c 0 t = x0
  generalize iblk m c 1 t = x1
  generalize iblk m c 2 t = x2
  obtain ⟨o, xm, xl, xa⟩ := acc
  refine ⟨fun h b => ?_, fun h b => ?_, fun h d b => ?_⟩
  · unfold rows
    frame_open
    simp (disch := decide) only [↓ View.readCov_skip, ↓ View.readCov_cons_toLoadRect, ↓ View.readCov_fill]
    frame_out
    exact canon_rows _ (fun h => maxOut (masked (diagMask t) (scoreLd x0 x1 h)) (rowLd initMax h)) (fun h => maxOut_step (m := rows initMax) h (masked_scoreLd_apply (diagMask t) x0 x1 h) (rowLd_apply rfl h)) [_] h b
  · unfold rows
    frame_open
    simp (disch := decide) only [↓ View.readCov_skip, ↓ View.readCov_cons_toLoadRect, ↓ View.readCov_fill]
    frame_out
    exact canon_rows _ (fun h => sumOut (masked (diagMask t) (scoreLd x0 x1 h)) (rowLd initMax h) (rowLd initSum h))
      (fun h => sumOut_step (m := rows initMax) (l := rows initSum) h (masked_scoreLd_apply (diagMask t) x0 x1 h) (rowLd_apply rfl h) (rowLd_apply rfl h)) [_] h b
  · unfold accs
    frame_open
    simp (disch := decide) only [↓ View.readCov_skip, ↓ View.readCov_cons_toLoadRect, ↓ View.readCov_fill]
    frame_out
    exact canon_accs _ (fun h => accOut (masked (diagMask t) (scoreLd x0 x1 h)) (rowLd initMax h) (valLd x2 h) (accLd initAcc h))
      (fun h => accOut_step (m := rows initMax) (a := accs initAcc) h (masked_scoreLd_apply (diagMask t) x0 x1 h) (rowLd_apply rfl h) (valLd_apply x2 h) (accLd_apply rfl h)) [_] h d b

end Cert.Attn

end
-- ==== Proof.Last.lean ====
/- The stores of every head's part of the running arrays, and the loads of one head's part, read at an index. -/
/- The grid points after their queries, and the last grid point of its queries. -/
module

public import proofs.«01_k».proof.Proof.Gen.KernelIdeal.Value
public import proofs.«01_k».proof.Proof.Mask
public import Idealize.ShloMosaic.Lib.Pipeline.ValueKit
public import Idealize.ShloMosaic.Lib.Pipeline.ReadBack

@[expose] public section

noncomputable section

namespace Cert.Attn

open Idealize.ShloMosaic hiding ix1 ix2 ix3 ix4
open Idealize.ShloMosaic.ValueIdx Idealize.ShloMosaic.TcCoe Cert.KernelIdeal Cert.KernelIdeal.Gen Cert.KernelIdeal.Value

variable (m : (ℓ : Loc nD τ sig) → Buf (Elt Ideal) ℓ) (c : Dev nD)

/-- A grid point after its queries leaves the running arrays as they were. -/
theorem idle_B (t : Fin cfg0.N) (acc : State) (h0 : ¬t.val % 32 = 0) (h1 : ¬2 * (t.val % 32) + 2 ≤ t.val / 32 % 64)
    (h2 : ¬(2 * (t.val % 32) ≤ t.val / 32 % 64 ∧ t.val / 32 % 64 ≤ 2 * (t.val % 32) + 1)) (h3 : ¬t.val % 32 = 31) : (stAt0 m c t.val t.isLt acc).2 = acc.2 := by
  rw [stAt0_B m c t acc h0 h1 h2 h3]
  obtain ⟨o, xm, xl, xa⟩ := acc
  rfl

/-- So does the last. -/
theorem idle_C (t : Fin cfg0.N) (acc : State) (h0 : ¬t.val % 32 = 0) (h1 : ¬2 * (t.val % 32) + 2 ≤ t.val / 32 % 64)
    (h2 : ¬(2 * (t.val % 32) ≤ t.val / 32 % 64 ∧ t.val / 32 % 64 ≤ 2 * (t.val % 32) + 1)) (h3 : t.val % 32 = 31) : (stAt0 m c t.val t.isLt acc).2 = acc.2 := by
  rw [stAt0_C m c t acc h0 h1 h2 h3]
  obtain ⟨o, xm, xl, xa⟩ := acc
  rfl

/-- The last stores the accumulators over the running sum. -/
theorem divided_C (t : Fin cfg0.N) (acc : State) (h0 : ¬t.val % 32 = 0) (h1 : ¬2 * (t.val % 32) + 2 ≤ t.val / 32 % 64)
    (h2 : ¬(2 * (t.val % 32) ≤ t.val / 32 % 64 ∧ t.val / 32 % 64 ≤ 2 * (t.val % 32) + 1)) (h3 : t.val % 32 = 31) : Divided (stAt0 m c t.val t.isLt acc) := by
  have e := idle_C m c t acc h0 h1 h2 h3
  intro h d b
  rw [e]
  clear e
  rw [stAt0_C m c t acc h0 h1 h2 h3]
  generalize iblk m c 0 t = x0
  generalize iblk m c 1 t = x1
  generalize iblk m c 2 t = x2
  obtain ⟨o, xm, xl, xa⟩ := acc
  frame_out
  exact canon_outs (fun h d b => accs xa h d b * Ideal.div 1 (rows xl h b)) (fun h => finOut (rowLd _ h) (accLd _ h))
    (fun h d b => (finOut_apply _ _ d b).trans (congrArg₂ (fun a l => a * Ideal.div 1 l)
      (accLd_apply (read_unread_whole cc0_scratch2 _ xa) h d b) (rowLd_apply (read_unread_whole cc0_scratch1 _ xl) h b))) [] h d b

/-- The last grid point of its queries, which overlaps them. -/
theorem stepped_G (t : Fin cfg0.N) (acc : State) (h0 : ¬t.val % 32 = 0) (h1 : ¬2 * (t.val % 32) + 2 ≤ t.val / 32 % 64)
    (h2 : (2 * (t.val % 32) ≤ t.val / 32 % 64 ∧ t.val / 32 % 64 ≤ 2 * (t.val % 32) + 1)) (h3 : t.val % 32 = 31) :
    Stepped (hide (diagMask t) (tile (iblk m c 0 t) (iblk m c 1 t))) (vals (iblk m c 2 t)) (rows acc.2.1) (rows acc.2.2.1) (accs acc.2.2.2) (stAt0 m c t.val t.isLt acc) := by
  rw [stAt0_G m c t acc h0 h1 h2 h3]
  generalize iblk m c 0 t = x0
  generalize iblk m c 1 t = x1
  generalize iblk m c 2 t = x2
  obtain ⟨o, xm, xl, xa⟩ := acc
  refine ⟨fun h b => ?_, fun h b => ?_, fun h d b => ?_⟩
  · unfold rows
    frame_out
    exact canon_rows _ (fun h => maxOut (masked (diagMask t) (scoreLd x0 x1 h)) (rowLd _ h)) (fun h => maxOut_step (m := rows xm) h (masked_scoreLd_apply (diagMask t) x0 x1 h) (rowLd_apply (read_unread_whole cc0_scratch0 _ xm) h)) [] h b
  · unfold rows
    frame_out
    exact canon_rows _ (fun h => sumOut (masked (diagMask t) (scoreLd x0 x1 h)) (rowLd _ h) (rowLd _ h))
      (fun h => sumOut_step (m := rows xm) (l := rows xl) h (masked_scoreLd_apply (diagMask t) x0 x1 h) (rowLd_apply (read_unread_whole cc0_scratch0 _ xm) h) (rowLd_apply (read_unread_whole cc0_scratch1 _ xl) h)) [] h b
  · unfold accs
    frame_out
    exact canon_accs _ (fun h => accOut (masked (diagMask t) (scoreLd x0 x1 h)) (rowLd _ h) (valLd x2 h) (accLd _ h))
      (fun h => accOut_step (m := rows xm) (a := accs xa) h (masked_scoreLd_apply (diagMask t) x0 x1 h) (rowLd_apply (read_unread_whole cc0_scratch0 _ xm) h) (valLd_apply x2 h) (accLd_apply (read_unread_whole cc0_scratch2 _ xa) h)) [] h d b

/-- It stores the accumulators over the running sum. -/
theorem divided_G (t : Fin cfg0.N) (acc : State) (h0 : ¬t.val % 32 = 0) (h1 : ¬2 * (t.val % 32) + 2 ≤ t.val / 32 % 64)
    (h2 : (2 * (t.val % 32) ≤ t.val / 32 % 64 ∧ t.val / 32 % 64 ≤ 2 * (t.val % 32) + 1)) (h3 : t.val % 32 = 31) : Divided (stAt0 m c t.val t.isLt acc) := by
  have e := stepped_G m c t acc h0 h1 h2 h3
  intro h d b
  rw [e.acc, e.sum]
  clear e
  rw [stAt0_G m c t acc h0 h1 h2 h3]
  generalize iblk m c 0 t = x0
  generalize iblk m c 1 t = x1
  generalize iblk m c 2 t = x2
  obtain ⟨o, xm, xl, xa⟩ := acc
  frame_open
  simp (disch := decide) only [↓ View.readCov_skip, ↓ View.readCov_cons_toLoadRect, ↓ View.readCov_fill]
  frame_out
  exact canon_outs (fun h d b => stepAcc (hide (diagMask t) (tile x0 x1)) (rows xm) (vals x2) (accs xa) h d b
      * Ideal.div 1 (stepSum (hide (diagMask t) (tile x0 x1)) (rows xm) (rows xl) h b))
    (fun h => finOut (sumOut (masked (diagMask t) (scoreLd x0 x1 h)) (rowLd _ h) (rowLd _ h))
      (accOut (masked (diagMask t) (scoreLd x0 x1 h)) (rowLd _ h) (valLd x2 h) (accLd _ h)))
    (fun h d b => (finOut_apply _ _ d b).trans (congrArg₂ (fun a l => a * Ideal.div 1 l)
      (accOut_step h (masked_scoreLd_apply (diagMask t) x0 x1 h) (rowLd_apply (read_unread_whole cc0_scratch0 _ xm) h) (valLd_apply x2 h)
        (accLd_apply (read_unread_whole cc0_scratch2 _ xa) h) d b)
      (sumOut_step h (masked_scoreLd_apply (diagMask t) x0 x1 h) (rowLd_apply (read_unread_whole cc0_scratch0 _ xm) h)
        (rowLd_apply (read_unread_whole cc0_scratch1 _ xl) h) b))) [] h d b

end Cert.Attn

end
-- ==== Proof.Sweep.lean ====
/- The sweep over a query tile's key tiles: after each grid point the three running arrays hold the maximum of the logits
   so far, the sum of their exponentials and the values' sums weighted by them. -/
module

public import proofs.«01_k».proof.Proof.Blocks
public import proofs.«01_k».proof.Proof.Full
public import proofs.«01_k».proof.Proof.Diag
public import proofs.«01_k».proof.Proof.Last

@[expose] public section

noncomputable section

namespace Cert.Attn

open Idealize.ShloMosaic hiding ix1 ix2 ix3 ix4
open Idealize.ShloMosaic.ValueIdx Idealize.ShloMosaic.TcCoe Cert.KernelIdeal Cert.KernelIdeal.Gen Cert.KernelIdeal.Value Cert.Online

variable (m : (ℓ : Loc nD τ sig) → Buf (Elt Ideal) ℓ) (c : Dev nD)

/-- The values of a grid point's sequence, for one head's feature. -/
abbrev valuesOf (n : ℕ) (h : Fin 8) (d : Fin 64) : ℕ → EReal := valueAt (value m c) (bOf n) h d

/-- The three running arrays over the first `N` keys. -/
structure Swept (n N : ℕ) (st : State) : Prop where
  max : ∀ h b, rows st.2.1 h b = top (rowOf m c n h b) N
  sum : ∀ h b, rows st.2.2.1 h b = acc (fun _ => 1) (rowOf m c n h b) N (top (rowOf m c n h b) N)
  acc : ∀ h d b, accs st.2.2.2 h d b = acc (valuesOf m c n h d) (rowOf m c n h b) N (top (rowOf m c n h b) N)

/-- A step over one more tile of keys. -/
theorem Swept.step {n N : ℕ} {s : Fin 8 → Fin 512 → Fin 256 → EReal} {v : Fin 8 → Fin 64 → Fin 512 → EReal}
    {xm xl : Fin 8 → Fin 256 → EReal} {xa : Fin 8 → Fin 64 → Fin 256 → EReal} {st : State} (hs : Stepped s v xm xl xa st)
    (es : ∀ h j b, s h j b = rowOf m c n h b (N + j.val)) (ev : ∀ h d j, v h d j = valuesOf m c n h d (N + j.val))
    (em : ∀ h b, xm h b = top (rowOf m c n h b) N)
    (el : ∀ h b, xl h b = Online.acc (fun _ => 1) (rowOf m c n h b) N (top (rowOf m c n h b) N))
    (ea : ∀ h d b, xa h d b = Online.acc (valuesOf m c n h d) (rowOf m c n h b) N (top (rowOf m c n h b) N)) :
    Swept m c n (N + 512) st := by
  have e : ∀ h b, stepMax s xm h b = top (rowOf m c n h b) (N + 512) := fun h b => by
    rw [← top_add, stepMax, em]
    simp only [es]
  have le : ∀ h b, top (rowOf m c n h b) N ≤ top (rowOf m c n h b) (N + 512) := fun h b =>
    (le_max_left _ _).trans_eq (top_add _ N 512)
  refine ⟨fun h b => (hs.max h b).trans (e h b), fun h b => (hs.sum h b).trans ?_, fun h d b => (hs.acc h d b).trans ?_⟩
  · rw [stepSum, e, ← acc_add _ _ _ _ (le h b), em, el, mul_comm]
    simp only [es, one_mul]
  · rw [stepAcc, e, ← acc_add _ _ _ _ (le h b), em, ea]
    simp only [es, ev]

/-- Before the first key. -/
theorem top_zero (s : ℕ → EReal) : top s 0 = ⊥ := rfl

theorem acc_zero (w s : ℕ → EReal) (M : EReal) : acc w s 0 M = 0 := rfl

/-- A query tile's grid points share their sequence and their queries. -/
theorem bOf_succ {n : ℕ} (h : (n + 1) % 32 ≠ 0) : bOf (n + 1) = bOf n :=
  Fin.ext (show (n + 1) / 2048 % 2 = n / 2048 % 2 by omega)

theorem qOf_succ {n : ℕ} (h : (n + 1) % 32 ≠ 0) (b : Fin 256) : qOf (n + 1) b = qOf n b :=
  Fin.ext (show 256 * ((n + 1) / 32 % 64) + b.val = 256 * (n / 32 % 64) + b.val by omega)

theorem Swept.next {n N : ℕ} {st : State} (h : (n + 1) % 32 ≠ 0) (hs : Swept m c n N st) : Swept m c (n + 1) N st := by
  have e : ∀ h' b, rowOf m c (n + 1) h' b = rowOf m c n h' b := fun h' b => by
    rw [rowOf, bOf_succ h, qOf_succ h]
  have ev : ∀ h' d, valuesOf m c (n + 1) h' d = valuesOf m c n h' d := fun h' d => by rw [valuesOf, bOf_succ h]
  refine ⟨fun h' b => ?_, fun h' b => ?_, fun h' d b => ?_⟩
  · rw [e]; exact hs.max h' b
  · rw [e]; exact hs.sum h' b
  · rw [e, ev]; exact hs.acc h' d b

/-- Past the queries nothing changes. -/
theorem Swept.skip {n N : ℕ} {st st' : State} (hs : Swept m c n N st) (e : st'.2 = st.2)
    (h : 256 * (n / 32 % 64) + 256 ≤ N) : Swept m c n (N + 512) st' := by
  have z : ∀ h' b j, N ≤ j → j < N + 512 → rowOf m c n h' b j = ⊥ := fun h' b j hj _ => by
    rw [rowOf, logit]
    split
    · exact if_neg (show ¬j ≤ 256 * (n / 32 % 64) + b.val by omega)
    · rfl
  refine ⟨fun h' b => ?_, fun h' b => ?_, fun h' d b => ?_⟩
  · rw [e, top_skip _ _ _ (z h' b)]; exact hs.max h' b
  · rw [e, top_skip _ _ _ (z h' b), acc_skip _ _ _ _ _ (z h' b)]; exact hs.sum h' b
  · rw [e, top_skip _ _ _ (z h' b), acc_skip _ _ _ _ _ (z h' b)]; exact hs.acc h' d b

/-- One grid point of the sweep. -/
theorem swept_point (t : Fin cfg0.N) (st : State) (prev : t.val % 32 ≠ 0 → Swept m c t.val (512 * (t.val % 32)) st) :
    Swept m c t.val (512 * (t.val % 32) + 512) (stAt0 m c t.val t.isLt st) := by
  by_cases h0 : t.val % 32 = 0
  · have h3 : ¬t.val % 32 = 31 := by omega
    have em : ∀ h b, rows initMax h b = top (rowOf m c t.val h b) (512 * (t.val % 32)) := fun h b => by
      rw [rows_initMax, h0]; exact (top_zero _).symm
    have el : ∀ h b, rows initSum h b = acc (fun _ => 1) (rowOf m c t.val h b) (512 * (t.val % 32)) (top (rowOf m c t.val h b) (512 * (t.val % 32))) :=
      fun h b => by rw [rows_initSum, h0]; exact (acc_zero _ _ _).symm
    have ea : ∀ h d b, accs initAcc h d b = acc (valuesOf m c t.val h d) (rowOf m c t.val h b) (512 * (t.val % 32)) (top (rowOf m c t.val h b) (512 * (t.val % 32))) :=
      fun h d b => by rw [accs_initAcc, h0]; exact (acc_zero _ _ _).symm
    by_cases h1 : 2 * (t.val % 32) + 2 ≤ t.val / 32 % 64
    · exact Swept.step m c (stepped_D m c t st h0 h1 (by omega) h3) (tile_full m c t h1) (vals_tile m c t (by omega)) em el ea
    · exact Swept.step m c (stepped_A m c t st h0 h1 (by omega) h3) (tile_diag m c t (by omega)) (vals_tile m c t (by omega)) em el ea
  · have p := prev h0
    by_cases h1 : 2 * (t.val % 32) + 2 ≤ t.val / 32 % 64
    · exact Swept.step m c (stepped_F m c t st h0 h1 (by omega) (by omega)) (tile_full m c t h1) (vals_tile m c t (by omega)) p.max p.sum p.acc
    · by_cases h2 : 2 * (t.val % 32) ≤ t.val / 32 % 64 ∧ t.val / 32 % 64 ≤ 2 * (t.val % 32) + 1
      · have hs : Stepped (hide (diagMask t) (tile (iblk m c 0 t) (iblk m c 1 t))) (vals (iblk m c 2 t)) (rows st.2.1) (rows st.2.2.1) (accs st.2.2.2)
            (stAt0 m c t.val t.isLt st) := by
          by_cases h3 : t.val % 32 = 31
          · exact stepped_G m c t st h0 h1 h2 h3
          · exact stepped_E m c t st h0 h1 h2 h3
        exact Swept.step m c hs (tile_diag m c t h2) (vals_tile m c t (by omega)) p.max p.sum p.acc
      · have e : (stAt0 m c t.val t.isLt st).2 = st.2 := by
          by_cases h3 : t.val % 32 = 31
          · exact idle_C m c t st h0 h1 h2 h3
          · exact idle_B m c t st h0 h1 h2 h3
        exact Swept.skip m c p e (by omega)

/-- The sweep, at every grid point. -/
theorem swept : ∀ (n : ℕ) (hn : n < cfg0.N), Swept m c n (512 * (n % 32) + 512) (outsAt0 m c n hn)
  | 0, hn => by
    rw [outsAt0_zero]
    exact swept_point m c ⟨0, hn⟩ junk0 fun h => absurd rfl h
  | n + 1, hn => by
    rw [outsAt0_succ]
    refine swept_point m c ⟨n + 1, hn⟩ _ fun h => ?_
    have e : 512 * (n % 32) + 512 = 512 * ((n + 1) % 32) := by
      have : (n + 1) % 32 ≠ 0 := h
      omega
    exact Swept.next m c h (e ▸ swept n (Nat.lt_of_succ_lt hn))

/-- At a query tile's last grid point, the result's block is the accumulators over the running sum. -/
theorem divided_point (t : Fin cfg0.N) (st : State) (h3 : t.val % 32 = 31) : Divided (stAt0 m c t.val t.isLt st) := by
  by_cases h2 : 2 * (t.val % 32) ≤ t.val / 32 % 64 ∧ t.val / 32 % 64 ≤ 2 * (t.val % 32) + 1
  · exact divided_G m c t st (by omega) (by omega) h2 h3
  · exact divided_C m c t st (by omega) (by omega) h2 h3

theorem divided : ∀ (n : ℕ) (hn : n < cfg0.N), n % 32 = 31 → Divided (outsAt0 m c n hn)
  | 0, _, h => absurd h (by decide)
  | n + 1, hn, h => by
    rw [outsAt0_succ]
    exact divided_point m c ⟨n + 1, hn⟩ _ h

end Cert.Attn

end
-- ==== Proof.Result.lean ====
/- The kernel's result, by coordinates: the attention of its arguments. -/
module

public import proofs.«01_k».proof.Proof.Sweep

@[expose] public section

noncomputable section

namespace Cert.Attn

open Idealize.ShloMosaic hiding ix1 ix2 ix3 ix4
open Idealize.ShloMosaic.ValueIdx Idealize.ShloMosaic.TcCoe Cert.KernelIdeal Cert.KernelIdeal.Gen Cert.KernelIdeal.Value Cert.Online

variable (m : (ℓ : Loc nD τ sig) → Buf (Elt Ideal) ℓ) (c : Dev nD)

/-- The place in its block of one head's value at a query. -/
theorem place_apply (b : Fin 2) (h : Fin 8) (d : Fin 64) (q : Fin 16384) :
    loc3Of (ix3 b (row64 h d) q) = ix3 0 (row64 h d) ⟨q.val % 256, Nat.mod_lt _ (by decide)⟩ := by
  funext a
  refine Fin.ext ?_
  match a with
  | ⟨0, _⟩ => show b.val % 1 = 0; omega
  | ⟨1, _⟩ => show (row64 h d).val % 512 = (row64 h d).val; have := (row64 h d).isLt; omega
  | ⟨2, _⟩ => rfl

/-- The grid point that stores a query's values. -/
theorem point_apply (b : Fin 2) (h : Fin 8) (d : Fin 64) (q : Fin 16384) :
    pt3Of (ix3 b (row64 h d) q) = 32 * (64 * b.val + q.val / 256) + 31 := by
  show 32 * (64 * (b.val / 1 - 0) + 64 * ((row64 h d).val / 512 - 0) + 1 * (q.val / 256 - 0)) + 31 = _
  have := (row64 h d).isLt
  omega

theorem result_point {n : ℕ} (hn : n < cfg0.N) (b : Fin 2) (h : Fin 8) (d : Fin 64) (q : Fin 16384)
    (e : n = 32 * (64 * b.val + q.val / 256) + 31)
    (hL : acc (fun _ => 1) (logit (qNope m c) (qRope m c) (kNope m c) (kRope m c) b h q) 16384
      (top (logit (qNope m c) (qRope m c) (kNope m c) (kRope m c) b h q) 16384) ≠ 0) :
    (outsAt0 m c n hn).1 (ix3 0 (row64 h d) ⟨q.val % 256, Nat.mod_lt _ (by decide)⟩)
      = attention (qNope m c) (qRope m c) (kNope m c) (kRope m c) (value m c) b h d q := by
  have hq := q.isLt
  have hb := b.isLt
  have eb : bOf n = b := Fin.ext (show n / 2048 % 2 = b.val by omega)
  have eq : qOf n ⟨q.val % 256, Nat.mod_lt _ (by decide)⟩ = q := Fin.ext (show 256 * (n / 32 % 64) + q.val % 256 = q.val by omega)
  have s := swept m c n hn
  rw [show 512 * (n % 32) + 512 = 16384 by omega] at s
  rw [divided m c n hn (by omega) h d, s.acc, s.sum, valuesOf, rowOf, eb, eq, acc_div _ _ _ _ hL (acc_one_nonneg _ _ _), attention]

/-- The kernel's result is the attention, where the weights' sum is not zero. -/
theorem kernel_apply (b : Fin 2) (h : Fin 8) (d : Fin 64) (q : Fin 16384)
    (hL : acc (fun _ => 1) (logit (qNope m c) (qRope m c) (kNope m c) (kRope m c) b h q) 16384
      (top (logit (qNope m c) (qRope m c) (kNope m c) (kRope m c) b h q) 16384) ≠ 0) :
    (G3 m c : S2x512x16384.Idx → EReal) (ix3 b (row64 h d) q)
      = attention (qNope m c) (qRope m c) (kNope m c) (kRope m c) (value m c) b h d q := by
  have hq := q.isLt
  have hb := b.isLt
  have e := point_apply b h d q
  have hn : pt3Of (ix3 b (row64 h d) q) < cfg0.N := lt_of_lt_of_eq (by omega) N_0.symm
  rw [G3, dif_pos hn, ← outsAt0_sweep m c _ hn, place_apply]
  exact result_point m c hn b h d q e hL

end Cert.Attn

end
-- ==== Proof.FeedForward.lean ====
/- The mathematics of the feed-forward part: a gated causal convolution of width three between two products, and the
   layer norm of its sum with the scaled input, one token at a time. -/
module

public import Idealize.ShloMosaic.PureOps.Ideal.Laws

@[expose] public section

noncomputable section

namespace Cert.Ffn

open Idealize.ShloMosaic

/-- The literals of the two programs. -/
abbrev one : EReal := Ideal.ofBits .f32 0x3F800000#32
abbrev width : EReal := Ideal.ofBits .f32 0x44800000#32
abbrev eps : EReal := Ideal.ofBits .f32 0x3727C5AC#32
abbrev alpha : EReal := Ideal.ofBits .f32 0x3FB504F3#32

/-! ## One token -/

/-- A token scaled and shifted, times the first matrix. -/
def lift (x sc sh : Fin 1024 → EReal) (w : Fin 1024 → Fin 5632 → EReal) (c : Fin 5632) : EReal :=
  ∑ d : Fin 1024, (x d * (one + sc d) + sh d) * w d c

/-- The convolution of a channel over the token (`u0`) and the two before it. -/
def mix (cw : Fin 3 → Fin 5632 → EReal) (cb u2 u1 u0 : Fin 5632 → EReal) (c : Fin 5632) : EReal :=
  cw 0 c * u2 c + cw 1 c * u1 c + cw 2 c * u0 c + cb c

/-- The channel of a gate, and of the value it gates. -/
def gateChannel (f : Fin 2816) : Fin 5632 := ⟨f.val, by omega⟩
def valueChannel (f : Fin 2816) : Fin 5632 := ⟨2816 + f.val, by omega⟩

/-- The gate, by its logistic function, times the value. -/
def gated (v : Fin 5632 → EReal) (f : Fin 2816) : EReal :=
  v (gateChannel f) * Ideal.div one (one + Ideal.exp (-v (gateChannel f))) * v (valueChannel f)

/-- The second product, gated, beside the scaled token. -/
def residual (x g2 : Fin 1024 → EReal) (a : Fin 2816 → EReal) (w : Fin 2816 → Fin 1024 → EReal) (d : Fin 1024) : EReal :=
  alpha * x d + g2 d * ∑ f : Fin 2816, a f * w f d

def mean (z : Fin 1024 → EReal) : EReal := Ideal.div (∑ d : Fin 1024, z d) width

/-- The layer norm. -/
def norm (z g b : Fin 1024 → EReal) (d : Fin 1024) : EReal :=
  (z d - mean z) * Ideal.rsqrt (mean (fun e => (z e - mean z) * (z e - mean z)) + eps) * g d + b d

/-- One token's result, from its lifted channels and those of the two tokens before it. -/
def token (x g2 : Fin 1024 → EReal) (u2 u1 u0 : Fin 5632 → EReal) (cw : Fin 3 → Fin 5632 → EReal) (cb : Fin 5632 → EReal)
    (w : Fin 2816 → Fin 1024 → EReal) (g b : Fin 1024 → EReal) : Fin 1024 → EReal :=
  norm (residual x g2 (gated (mix cw cb u2 u1 u0)) w) g b

/-! ## The sequence -/

/-- What lies `k` tokens before a token: zero before the first. -/
def before (u : Fin 16384 → Fin 5632 → EReal) (k : ℕ) (q : Fin 16384) (c : Fin 5632) : EReal :=
  if k ≤ q.val then u ⟨q.val - k, by omega⟩ c else 0

/-- The feed-forward part of a batch of two sequences. -/
def feedForward (x : Fin 2 → Fin 16384 → Fin 1024 → EReal) (sc sh g2 : Fin 2 → Fin 1024 → EReal) (wu : Fin 1024 → Fin 5632 → EReal)
    (cw : Fin 3 → Fin 5632 → EReal) (cb : Fin 5632 → EReal) (wd : Fin 2816 → Fin 1024 → EReal) (g b : Fin 1024 → EReal)
    (s : Fin 2) (q : Fin 16384) : Fin 1024 → EReal :=
  token (x s q) (g2 s) (before (fun q => lift (x s q) (sc s) (sh s) wu) 2 q) (before (fun q => lift (x s q) (sc s) (sh s) wu) 1 q)
    (lift (x s q) (sc s) (sh s) wu) cw cb wd g b

end Cert.Ffn

end
-- ==== Proof.FfnRef.lean ====
/- What the second reference computes, at an index: the feed-forward part. -/
module

public import proofs.«01_k».proof.Proof.Gen.Reference2Ideal.Read
public import proofs.«01_k».proof.Proof.FeedForward
public import Idealize.ShloMosaic.Lib.ValueIdx
public import Idealize.ShloMosaic.Lib.KernelVsHost

@[expose] public section

noncomputable section

namespace Cert.FfnReference

open Idealize.ShloMosaic Idealize.ShloMosaic.ValueIdx Cert.Reference2Ideal Cert.Reference2Ideal.Gen Cert.Reference2Ideal.Read Cert.Ffn

/-! ## Arrays by their coordinates -/

def cube (x : (⟨S2x16384x1024, .f32⟩ : BufTy).Contents (Elt Ideal)) (s : Fin 2) (q : Fin 16384) (d : Fin 1024) : EReal := x (ix3 s q d)
def plane (x : (⟨S2x1024, .f32⟩ : BufTy).Contents (Elt Ideal)) (s : Fin 2) (d : Fin 1024) : EReal := x (ix2 s d)
def wide (x : (⟨S1024x5632, .f32⟩ : BufTy).Contents (Elt Ideal)) (d : Fin 1024) (f : Fin 5632) : EReal := x (ix2 d f)
def tap (x : (⟨S3x5632, .f32⟩ : BufTy).Contents (Elt Ideal)) (k : Fin 3) (f : Fin 5632) : EReal := x (ix2 k f)
def offset (x : (⟨S5632, .f32⟩ : BufTy).Contents (Elt Ideal)) (f : Fin 5632) : EReal := x (ix1 f)
def tall (x : (⟨S2816x1024, .f32⟩ : BufTy).Contents (Elt Ideal)) (f : Fin 2816) (d : Fin 1024) : EReal := x (ix2 f d)
def line (x : (⟨S1024, .f32⟩ : BufTy).Contents (Elt Ideal)) (d : Fin 1024) : EReal := x (ix1 d)

variable (x0 : (⟨S2x16384x1024, .f32⟩ : BufTy).Contents (Elt Ideal)) (x1 x2 x3 : (⟨S2x1024, .f32⟩ : BufTy).Contents (Elt Ideal))
  (x4 : (⟨S1024x5632, .f32⟩ : BufTy).Contents (Elt Ideal)) (x5 : (⟨S3x5632, .f32⟩ : BufTy).Contents (Elt Ideal))
  (x6 : (⟨S5632, .f32⟩ : BufTy).Contents (Elt Ideal)) (x7 : (⟨S2816x1024, .f32⟩ : BufTy).Contents (Elt Ideal))
  (x8 x9 : (⟨S1024, .f32⟩ : BufTy).Contents (Elt Ideal))

/-! ## The lifted channels -/

theorem scaled_apply (s : Fin 2) (q : Fin 16384) (d : Fin 1024) :
    val_main_v7 (F := Ideal) x0 x1 x2 (ix3 s q d) = cube x0 s q d * (one + plane x1 s d) + plane x2 s d := by
  rw [val_main_v7_apply, val_main_v4_apply, val_main_v3_apply, val_main_v2_apply, val_main_v1_apply, val_main_cst_apply, val_main_v0_apply,
    val_main_v6_apply, val_main_v5_apply]
  refine congrArg₂ (fun a b : EReal => x0 (ix3 s q d) * (one + a) + b) (congrArg x1 (funext fun a => ?_)) (congrArg x2 (funext fun a => ?_)) <;>
    match a with | ⟨0, _⟩ => rfl | ⟨1, _⟩ => rfl

/-- The lifted channels of a sequence. -/
abbrev channels (s : Fin 2) (q : Fin 16384) : Fin 5632 → EReal := lift (cube x0 s q) (plane x1 s) (plane x2 s) (wide x4)

theorem lifted_apply (s : Fin 2) (q : Fin 16384) (f : Fin 5632) :
    val_main_v8 (F := Ideal) x0 x1 x2 x4 (ix3 s q f) = channels x0 x1 x2 x4 s q f := by
  rw [val_main_v8_apply]
  refine Finset.sum_congr rfl fun d _ => congrArg₂ (fun a b : EReal => a * b) ?_ ?_
  · refine Eq.trans (congrArg _ (funext fun a => ?_)) (scaled_apply x0 x1 x2 s q d)
    match a with | ⟨0, _⟩ => rfl | ⟨1, _⟩ => rfl | ⟨2, _⟩ => rfl
  · refine congrArg x4 (funext fun a => ?_)
    match a with | ⟨0, _⟩ => rfl | ⟨1, _⟩ => rfl

theorem pad_zero : val_main_call0_v0 (F := Ideal) (Shape.Idx.first h_S_) = 0 := by
  rw [val_main_call0_v0_apply, val_main_c_apply]
  show (((0#32 : BitVec 32).toInt : ℝ) : EReal) = 0
  simp

theorem padded_apply (s : Fin 2) (j : Fin 16386) (f : Fin 5632) :
    val_main_v9 (F := Ideal) x0 x1 x2 x4 (ix3 s j f)
      = if h : 2 ≤ j.val then channels x0 x1 x2 x4 s ⟨j.val - 2, by omega⟩ f else 0 := by
  unfold val_main_v9
  by_cases h : 2 ≤ j.val
  · rw [dif_pos h, ← lifted_apply]
    refine pad_apply_of_inside _ _ _ _ _ _ _ (ix3 s j f) (ix3 s ⟨j.val - 2, by omega⟩ f) fun a => ?_
    match a with
    | ⟨0, _⟩ => show s.val = 0 + s.val * (0 + 1); omega
    | ⟨1, _⟩ => show j.val = 2 + (j.val - 2) * (0 + 1); omega
    | ⟨2, _⟩ => show f.val = 0 + f.val * (0 + 1); omega
  · rw [dif_neg h]
    exact (pad_apply_of_not_inside _ _ _ _ _ _ _ (ix3 s j f) (1 : Fin 3) fun e => h (show 2 ≤ j.val from e.1)).trans pad_zero

section
variable (s : Fin 2) (q : Fin 16384) (f : Fin 5632)

theorem two_before : val_main_v10 (F := Ideal) x0 x1 x2 x4 (ix3 s q f) = before (channels x0 x1 x2 x4 s) 2 q f := by
  have e : idx_main_v10 (ix3 s q f) = ix3 s (⟨q.val, by omega⟩ : Fin 16386) f := by
    funext a; match a with | ⟨0, _⟩ => rfl | ⟨1, _⟩ => rfl | ⟨2, _⟩ => rfl
  rw [val_main_v10_apply, e, padded_apply]
  rfl

theorem one_before : val_main_v18 (F := Ideal) x0 x1 x2 x4 (ix3 s q f) = before (channels x0 x1 x2 x4 s) 1 q f := by
  have e : idx_main_v18 (ix3 s q f) = ix3 s (⟨1 + q.val, by omega⟩ : Fin 16386) f := by
    funext a; match a with | ⟨0, _⟩ => rfl | ⟨1, _⟩ => rfl | ⟨2, _⟩ => rfl
  rw [val_main_v18_apply, e, padded_apply]
  unfold before
  by_cases h : 1 ≤ q.val
  · rw [if_pos h, dif_pos (show 2 ≤ 1 + q.val by omega)]
    exact congrArg (channels x0 x1 x2 x4 s · f) (Fin.ext (show 1 + q.val - 2 = q.val - 1 by omega))
  · rw [if_neg h, dif_neg (show ¬2 ≤ 1 + q.val by omega)]

theorem none_before : val_main_v25 (F := Ideal) x0 x1 x2 x4 (ix3 s q f) = channels x0 x1 x2 x4 s q f := by
  have e : idx_main_v25 (ix3 s q f) = ix3 s (⟨2 + q.val, by omega⟩ : Fin 16386) f := by
    funext a; match a with | ⟨0, _⟩ => rfl | ⟨1, _⟩ => rfl | ⟨2, _⟩ => rfl
  rw [val_main_v25_apply, e, padded_apply, dif_pos (show 2 ≤ 2 + q.val by omega)]
  exact congrArg (channels x0 x1 x2 x4 s · f) (Fin.ext (show 2 + q.val - 2 = q.val by omega))

theorem tap0_apply : val_main_v14 (F := Ideal) x5 (ix3 s q f) = tap x5 0 f := by
  rw [val_main_v14_apply, val_main_v13_apply, val_main_v12_apply, val_main_v11_apply]
  refine congrArg x5 (funext fun a => ?_)
  match a with
  | ⟨0, _⟩ => rfl
  | ⟨1, _⟩ => exact Fin.ext (Nat.mod_eq_of_lt f.isLt)

theorem tap1_apply : val_main_v22 (F := Ideal) x5 (ix3 s q f) = tap x5 1 f := by
  rw [val_main_v22_apply, val_main_v21_apply, val_main_v20_apply, val_main_v19_apply]
  refine congrArg x5 (funext fun a => ?_)
  match a with
  | ⟨0, _⟩ => rfl
  | ⟨1, _⟩ => exact Fin.ext (Nat.mod_eq_of_lt f.isLt)

theorem tap2_apply : val_main_v29 (F := Ideal) x5 (ix3 s q f) = tap x5 2 f := by
  rw [val_main_v29_apply, val_main_v28_apply, val_main_v27_apply, val_main_v26_apply]
  refine congrArg x5 (funext fun a => ?_)
  match a with
  | ⟨0, _⟩ => rfl
  | ⟨1, _⟩ => exact Fin.ext (Nat.mod_eq_of_lt f.isLt)

/-- The convolved channels of a sequence. -/
abbrev convolved (s : Fin 2) (q : Fin 16384) : Fin 5632 → EReal :=
  mix (tap x5) (offset x6) (before (channels x0 x1 x2 x4 s) 2 q) (before (channels x0 x1 x2 x4 s) 1 q) (channels x0 x1 x2 x4 s q)

theorem convolved_apply : val_main_v34 (F := Ideal) x0 x1 x2 x4 x5 x6 (ix3 s q f) = convolved x0 x1 x2 x4 x5 x6 s q f := by
  have eb : val_main_v33 (F := Ideal) x6 (ix3 s q f) = offset x6 f := by
    rw [val_main_v33_apply, val_main_v32_apply]
    refine congrArg x6 (funext fun a => ?_)
    match a with | ⟨0, _⟩ => rfl
  have ez : val_main_v16 (F := Ideal) (ix3 s q f) = 0 := by
    rw [val_main_v16_apply, val_main_cst_0_apply]
    exact Ideal.ofBits_zero_f32
  rw [val_main_v34_apply, val_main_v31_apply, val_main_v24_apply, val_main_v17_apply, val_main_v15_apply, val_main_v23_apply, val_main_v30_apply,
    two_before, one_before, none_before, tap0_apply, tap1_apply, tap2_apply, eb, ez]
  show (0 + before (channels x0 x1 x2 x4 s) 2 q f * tap x5 0 f + before (channels x0 x1 x2 x4 s) 1 q f * tap x5 1 f
    + channels x0 x1 x2 x4 s q f * tap x5 2 f + offset x6 f : EReal) = _
  rw [zero_add, mul_comm _ (tap x5 0 f), mul_comm _ (tap x5 1 f), mul_comm _ (tap x5 2 f)]
  rfl
end

/-! ## The gate and the second product -/

theorem gated_apply (s : Fin 2) (q : Fin 16384) (f : Fin 2816) :
    val_main_v38 (F := Ideal) x0 x1 x2 x4 x5 x6 (ix3 s q f) = gated (convolved x0 x1 x2 x4 x5 x6 s q) f := by
  have eg : val_main_v35 (F := Ideal) x0 x1 x2 x4 x5 x6 (ix3 s q f) = convolved x0 x1 x2 x4 x5 x6 s q (gateChannel f) := by
    rw [val_main_v35_apply]
    refine Eq.trans (congrArg _ (funext fun a => ?_)) (convolved_apply x0 x1 x2 x4 x5 x6 s q (gateChannel f))
    match a with | ⟨0, _⟩ => rfl | ⟨1, _⟩ => rfl | ⟨2, _⟩ => rfl
  have ev : val_main_v36 (F := Ideal) x0 x1 x2 x4 x5 x6 (ix3 s q f) = convolved x0 x1 x2 x4 x5 x6 s q (valueChannel f) := by
    rw [val_main_v36_apply]
    refine Eq.trans (congrArg _ (funext fun a => ?_)) (convolved_apply x0 x1 x2 x4 x5 x6 s q (valueChannel f))
    match a with | ⟨0, _⟩ => rfl | ⟨1, _⟩ => rfl | ⟨2, _⟩ => rfl
  rw [val_main_v38_apply, val_main_v37_apply, val_main_call1_v5_apply, val_main_call1_v4_apply, val_main_call1_cst_0_apply,
    val_main_call1_v3_apply, val_main_call1_v2_apply, val_main_call1_cst_apply, val_main_call1_v1_apply, val_main_call1_v0_apply, eg, ev]
  rfl

/-- A token's residual. -/
abbrev resid (s : Fin 2) (q : Fin 16384) : Fin 1024 → EReal :=
  residual (cube x0 s q) (plane x3 s) (gated (convolved x0 x1 x2 x4 x5 x6 s q)) (tall x7)

theorem resid_apply (s : Fin 2) (q : Fin 16384) (d : Fin 1024) :
    val_main_v45 (F := Ideal) x0 x1 x2 x3 x4 x5 x6 x7 (ix3 s q d) = resid x0 x1 x2 x3 x4 x5 x6 x7 s q d := by
  have eg : val_main_v43 (F := Ideal) x3 (ix3 s q d) = plane x3 s d := by
    rw [val_main_v43_apply, val_main_v42_apply]
    refine congrArg x3 (funext fun a => ?_)
    match a with | ⟨0, _⟩ => rfl | ⟨1, _⟩ => rfl
  have es : val_main_v39 (F := Ideal) x0 x1 x2 x4 x5 x6 x7 (ix3 s q d)
      = ∑ f : Fin 2816, gated (convolved x0 x1 x2 x4 x5 x6 s q) f * tall x7 f d := by
    rw [val_main_v39_apply]
    refine Finset.sum_congr rfl fun f _ => congrArg₂ (fun a b : EReal => a * b) ?_ ?_
    · refine Eq.trans (congrArg _ (funext fun a => ?_)) (gated_apply x0 x1 x2 x4 x5 x6 s q f)
      match a with | ⟨0, _⟩ => rfl | ⟨1, _⟩ => rfl | ⟨2, _⟩ => rfl
    · refine congrArg x7 (funext fun a => ?_)
      match a with | ⟨0, _⟩ => rfl | ⟨1, _⟩ => rfl
  rw [val_main_v45_apply, val_main_v41_apply, val_main_v40_apply, val_main_cst_1_apply, val_main_v44_apply, eg, es]
  rfl

/-! ## The layer norm -/

theorem mean_apply (s : Fin 2) (q : Fin 16384) :
    val_main_v49 (F := Ideal) x0 x1 x2 x3 x4 x5 x6 x7 (ix3 s q 0) = mean (resid x0 x1 x2 x3 x4 x5 x6 x7 s q) := by
  rw [val_main_v49_apply, val_main_v48_apply, val_main_cst_3_apply, val_main_v47_apply, val_main_v46_apply]
  refine congrArg (fun y : EReal => Ideal.div y width) ?_
  rw [val_main_cst_2_apply]
  refine (congrArg₂ (fun a b : EReal => a + b) Ideal.ofBits_zero_f32 (Finset.sum_congr rfl fun d _ => ?_)).trans (zero_add _)
  refine Eq.trans (congrArg _ (funext fun a => ?_)) (resid_apply x0 x1 x2 x3 x4 x5 x6 x7 s q d)
  match a with | ⟨0, _⟩ => rfl | ⟨1, _⟩ => rfl | ⟨2, _⟩ => rfl

/-- A token's residual, centred. -/
abbrev centre (s : Fin 2) (q : Fin 16384) (d : Fin 1024) : EReal :=
  resid x0 x1 x2 x3 x4 x5 x6 x7 s q d - mean (resid x0 x1 x2 x3 x4 x5 x6 x7 s q)

theorem centre_apply (s : Fin 2) (q : Fin 16384) (d : Fin 1024) :
    val_main_v51 (F := Ideal) x0 x1 x2 x3 x4 x5 x6 x7 (ix3 s q d) = centre x0 x1 x2 x3 x4 x5 x6 x7 s q d := by
  have e : idx_main_v50 (ix3 s q d) = ix3 s q 0 := by
    funext a; match a with | ⟨0, _⟩ => rfl | ⟨1, _⟩ => rfl | ⟨2, _⟩ => rfl
  rw [val_main_v51_apply, resid_apply, val_main_v50_apply, e, mean_apply]
  rfl

theorem centre_apply' (s : Fin 2) (q : Fin 16384) (d : Fin 1024) :
    val_main_v58 (F := Ideal) x0 x1 x2 x3 x4 x5 x6 x7 (ix3 s q d) = centre x0 x1 x2 x3 x4 x5 x6 x7 s q d := by
  have e : idx_main_v57 (ix3 s q d) = ix3 s q 0 := by
    funext a; match a with | ⟨0, _⟩ => rfl | ⟨1, _⟩ => rfl | ⟨2, _⟩ => rfl
  rw [val_main_v58_apply, resid_apply, val_main_v57_apply, e, mean_apply]
  rfl

theorem variance_apply (s : Fin 2) (q : Fin 16384) :
    val_main_v56 (F := Ideal) x0 x1 x2 x3 x4 x5 x6 x7 (ix3 s q 0)
      = mean fun d => centre x0 x1 x2 x3 x4 x5 x6 x7 s q d * centre x0 x1 x2 x3 x4 x5 x6 x7 s q d := by
  rw [val_main_v56_apply, val_main_v55_apply, val_main_cst_5_apply, val_main_v54_apply, val_main_v53_apply]
  refine congrArg (fun y : EReal => Ideal.div y width) ?_
  rw [val_main_cst_4_apply]
  refine (congrArg₂ (fun a b : EReal => a + b) Ideal.ofBits_zero_f32 (Finset.sum_congr rfl fun d _ => ?_)).trans (zero_add _)
  have e : idx_main_v53 (idx_main_v54 (ix3 s q 0)) d = ix3 s q d := by
    funext a; match a with | ⟨0, _⟩ => rfl | ⟨1, _⟩ => rfl | ⟨2, _⟩ => rfl
  rw [e, val_main_v52_apply, centre_apply]
  rfl

/-- The reference's result is the feed-forward part of its arguments. -/
theorem result_apply (s : Fin 2) (q : Fin 16384) (d : Fin 1024) :
    val_main_v69 (F := Ideal) x0 x1 x2 x3 x4 x5 x6 x7 x8 x9 (ix3 s q d)
      = feedForward (cube x0) (plane x1) (plane x2) (plane x3) (wide x4) (tap x5) (offset x6) (tall x7) (line x8) (line x9) s q d := by
  have er : idx_main_v62 (ix3 s q d) = ix3 s q 0 := by
    funext a; match a with | ⟨0, _⟩ => rfl | ⟨1, _⟩ => rfl | ⟨2, _⟩ => rfl
  have eg : val_main_v65 (F := Ideal) x8 (ix3 s q d) = line x8 d := by
    rw [val_main_v65_apply, val_main_v64_apply]
    refine congrArg x8 (funext fun a => ?_)
    match a with | ⟨0, _⟩ => rfl
  have eb : val_main_v68 (F := Ideal) x9 (ix3 s q d) = line x9 d := by
    rw [val_main_v68_apply, val_main_v67_apply]
    refine congrArg x9 (funext fun a => ?_)
    match a with | ⟨0, _⟩ => rfl
  rw [val_main_v69_apply, val_main_v66_apply, val_main_v63_apply, centre_apply', val_main_v62_apply, er, val_main_v61_apply, val_main_v60_apply,
    variance_apply, val_main_v59_apply, val_main_cst_6_apply, eg, eb]
  rfl

end Cert.FfnReference

end
-- ==== Proof.FfnTile.lean ====
/- One tile of tokens in the feed-forward kernel, read at an index: the lifted channels, their shifts by one and two tokens
   with the tile before's last rows at the top, the convolution, the gate, the second product and the layer norm. -/
module

public import proofs.«01_k».proof.Proof.Gen.Kernel2Ideal.Skeleton
public import proofs.«01_k».proof.Proof.FeedForward
public import Idealize.ShloMosaic.Lib.ValueLayout
public import Idealize.ShloMosaic.Lib.ValueLayoutCasts
public import Idealize.ShloMosaic.Lib.ValueIdx
public import Idealize.ShloMosaic.Lib.KernelVsHost
public import Idealize.ShloMosaic.Lib.WordCmp
public import Idealize.ShloMosaic.PureOps.Ideal.Laws
public import Idealize.ShloMosaic.Lib.MatmulPlain

@[expose] public section

noncomputable section

namespace Cert.Ffn

open Idealize.ShloMosaic Idealize.ShloMosaic.ValueIdx Cert.Kernel2Ideal Cert.Kernel2Ideal.Gen

/-! ## Reading the tile's arrays -/

def tokens (x : Vec Ideal S1x256x1024 .f32) (r : Fin 256) (d : Fin 1024) : EReal := x (ix3 0 r d)
def vec3 (x : Vec Ideal S1x1x1024 .f32) (d : Fin 1024) : EReal := x (ix3 0 0 d)
def vec2 (x : Vec Ideal S1x1024 .f32) (d : Fin 1024) : EReal := x (ix2 0 d)
def up (w : Vec Ideal S1024x5632 .bf16) (d : Fin 1024) (c : Fin 5632) : EReal := w (ix2 d c)
def down (w : Vec Ideal S2816x1024 .bf16) (f : Fin 2816) (d : Fin 1024) : EReal := w (ix2 f d)
def taps (w : Vec Ideal S3x5632 .f32) (k : Fin 3) (c : Fin 5632) : EReal := w (ix2 k c)
def bias (w : Vec Ideal S1x5632 .f32) (c : Fin 5632) : EReal := w (ix2 0 c)
def past (h : Vec Ideal S8x5632 .f32) (j : Fin 8) (c : Fin 5632) : EReal := h (ix2 j c)

/-- The lifted channels of the tile's tokens. -/
def lifted (x : Vec Ideal S1x256x1024 .f32) (sc sh : Vec Ideal S1x1x1024 .f32) (w : Vec Ideal S1024x5632 .bf16) (r : Fin 256) : Fin 5632 → EReal :=
  lift (tokens x r) (vec3 sc) (vec3 sh) (up w)

/-- The channels `k ≤ 2` tokens before, from the tile or the last rows of the one before. -/
def shifted (h : Fin 8 → Fin 5632 → EReal) (u : Fin 256 → Fin 5632 → EReal) (k : ℕ) (hk : k ≤ 2) (r : Fin 256) (c : Fin 5632) : EReal :=
  if k ≤ r.val then u ⟨r.val - k, by omega⟩ c else h ⟨(8 + r.val - k) % 8, Nat.mod_lt _ (by decide)⟩ c

/-! ## The lifted channels -/

theorem pay3_apply (x : Vec Ideal S1x256x1024 .f32) (sc sh : Vec Ideal S1x1x1024 .f32) (w : Vec Ideal S1024x5632 .bf16) (r : Fin 256) (c : Fin 5632) :
    k0_pay3 (F := Ideal) x sc sh w (ix2 r c) = lifted x sc sh w r c := by
  unfold k0_pay3
  refine (Ideal.matmul_plain_apply (M := 256) (K := 1024) (N := 5632) none _ _ _ r c).trans ?_
  rw [constant_apply, Ideal.ofBits_zero_f32, zero_add, shapeCast_self]
  refine Finset.sum_congr rfl fun d _ => congrArg (fun y : EReal => y * w (ix2 d c)) (?_ : _ = tokens x r d * (one + vec3 sc d) + vec3 sh d)
  unfold k0_pay2
  rw [truncf_apply, addf_apply, mulf_apply, shapeCast_1ab_ab_apply, broadcastTo_1b_ab_apply, broadcastTo_1b_ab_apply, addf_apply,
    shapeCast_1ab_ab_apply, shapeCast_1ab_ab_apply]
  rfl

/-! ## The shifts -/

theorem row_word (v : ℕ) (hv : v < 256) (r : Fin 256) (c : Fin 5632) :
    cmpi .eq (iota .tc S256x5632 32 [0] iota_S256x5632_d0_w32) (broadcast S256x5632 (BitVec.ofNat 32 v)) (ix2 r c) = 1 ↔ r.val = v := by
  simp only [cmpi, broadcast, WordCmp.iota_at, List.foldl_cons, List.foldl_nil, Nat.zero_mul, Nat.zero_add]
  show BitVec.ofBool (BitVec.ofNat 32 r.val == BitVec.ofNat 32 v) = 1#1 ↔ _
  have ho : ∀ p : Bool, BitVec.ofBool p = 1#1 ↔ p = true := fun p => by cases p <;> decide
  rw [ho, beq_iff_eq]
  exact ⟨fun e => by
    have := congrArg BitVec.toNat e
    rwa [BitVec.toNat_ofNat, BitVec.toNat_ofNat, Nat.mod_eq_of_lt (by omega), Nat.mod_eq_of_lt (by omega)] at this, fun e => by rw [e]⟩

theorem rotate_apply (k : ℕ) (hk : k < 256) (x : S256x5632.Idx → EReal) (r : Fin 256) (c : Fin 5632) (h : k ≤ r.val) :
    dynamicRotate 0 (BitVec.ofNat 32 k) none x rotates_S256x5632_d0 (ix2 r c) = x (ix2 ⟨r.val - k, by omega⟩ c) := by
  refine dynamicRotate_apply (s := S256x5632) 0 _ x _ _ _ fun b => ?_
  match b with
  | ⟨0, _⟩ =>
    refine Eq.trans ?_ (if_pos rfl).symm
    show r.val - k = (r.val + 256 - (BitVec.ofNat 32 k).toNat % 256) % 256
    rw [BitVec.toNat_ofNat, Nat.mod_eq_of_lt (show k < 2 ^ 32 by omega)]
    have := r.isLt
    omega
  | ⟨1, _⟩ => exact (if_neg fun e => Nat.one_ne_zero (congrArg Fin.val e)).symm

theorem pastRow_apply (o : ℕ) (ho : o < 8) (h : Vec Ideal S8x5632 .f32) (w : S8x5632.Slices ![o, 0] S1x5632) (c : Fin 5632) :
    extractStridedSlice S1x5632 ![o, 0] h w (ix2 0 c) = past h ⟨o, ho⟩ c := by
  refine extractStridedSlice_apply _ h w (ix2 0 c) (ix2 ⟨o, ho⟩ c) fun a => ?_
  match a with
  | ⟨0, _⟩ => rfl
  | ⟨1, _⟩ => exact (Nat.zero_add _).symm

section
variable (x : Vec Ideal S1x256x1024 .f32) (sc sh : Vec Ideal S1x1x1024 .f32) (w : Vec Ideal S1024x5632 .bf16) (h : Vec Ideal S8x5632 .f32)

theorem pay5_apply (r : Fin 256) (c : Fin 5632) :
    k0_pay5 (F := Ideal) x sc sh w h (ix2 r c) = shifted (past h) (lifted x sc sh w) 1 (by decide) r c := by
  unfold k0_pay5 shifted
  rw [select_apply, Scalar.select]
  by_cases e : r.val = 0
  · rw [if_pos ((row_word 0 (by decide) r c).mpr e), if_neg (by omega), broadcastTo_1b_ab_apply, shapeCast_self, pastRow_apply 7 (by decide)]
    exact congrArg (past h · c) (Fin.ext (show 7 = (8 + r.val - 1) % 8 by omega))
  · rw [if_neg (fun e' => e ((row_word 0 (by decide) r c).mp e')), if_pos (by omega)]
    exact (rotate_apply 1 (by decide) _ r c (by omega)).trans (pay3_apply x sc sh w _ c)

/-- The shift by two, as the kernel writes it. -/
def shift2 : FVec Ideal S256x5632 .f32 :=
  select (k0_pay7 : IVec S256x5632 1) (broadcastTo S256x5632 (shapeCast S1x5632 (k0_pay8 (F := Ideal) h) shapeCasts_S1x5632_S1x5632) broadcasts_S1x5632_S256x5632)
    (select (k0_pay9 : IVec S256x5632 1) (broadcastTo S256x5632 (shapeCast S1x5632 (k0_pay10 (F := Ideal) h) shapeCasts_S1x5632_S1x5632) broadcasts_S1x5632_S256x5632)
      (k0_pay6 (F := Ideal) x sc sh w))

theorem shift2_apply (r : Fin 256) (c : Fin 5632) :
    shift2 x sc sh w h (ix2 r c) = shifted (past h) (lifted x sc sh w) 2 (by decide) r c := by
  unfold shift2 shifted k0_pay7 k0_pay9
  rw [select_apply, select_apply, Scalar.select, Scalar.select]
  by_cases e : r.val = 0
  · rw [if_pos ((row_word 0 (by decide) r c).mpr e), if_neg (by omega), broadcastTo_1b_ab_apply, shapeCast_self, k0_pay8, pastRow_apply 6 (by decide)]
    exact congrArg (past h · c) (Fin.ext (show 6 = (8 + r.val - 2) % 8 by omega))
  rw [if_neg (fun e' => e ((row_word 0 (by decide) r c).mp e'))]
  by_cases e1 : r.val = 1
  · rw [if_pos ((row_word 1 (by decide) r c).mpr e1), if_neg (by omega), broadcastTo_1b_ab_apply, shapeCast_self, k0_pay10, pastRow_apply 7 (by decide)]
    exact congrArg (past h · c) (Fin.ext (show 7 = (8 + r.val - 2) % 8 by omega))
  · rw [if_neg (fun e' => e1 ((row_word 1 (by decide) r c).mp e')), if_pos (by omega)]
    exact (rotate_apply 2 (by decide) _ r c (by omega)).trans (pay3_apply x sc sh w _ c)

/-- The rows carried to the next tile are the tile's last eight. -/
theorem pay11_apply (j : Fin 8) (c : Fin 5632) :
    past (k0_pay11 (F := Ideal) (k0_pay3 (F := Ideal) x sc sh w)) j c = lifted x sc sh w ⟨248 + j.val, by omega⟩ c := by
  unfold past k0_pay11
  rw [shapeCast_self]
  refine (extractStridedSlice_apply _ _ _ (ix2 j c) (ix2 ⟨248 + j.val, by omega⟩ c) fun a => ?_).trans (pay3_apply x sc sh w _ c)
  match a with
  | ⟨0, _⟩ => rfl
  | ⟨1, _⟩ => exact (Nat.zero_add _).symm

theorem pay4_apply (j : Fin 8) (c : Fin 5632) : past (k0_pay4 (F := Ideal)) j c = 0 := by
  unfold past k0_pay4
  rw [shapeCast_self, broadcast_apply]
  exact Ideal.ofBits_zero_f32
end

/-! ## The convolution and the gate -/

section
variable (u2 u1 u0 : FVec Ideal S256x5632 .f32) (cw : Vec Ideal S3x5632 .f32) (cb : Vec Ideal S1x5632 .f32)

/-- The convolution, as the kernel writes it. -/
def mixed : FVec Ideal S256x5632 .f32 :=
  addf (addf (addf
    (mulf (broadcastTo S256x5632 (extractStridedSlice S1x5632 ![0, 0] cw slices_S3x5632_o0_0_S1x5632) broadcasts_S1x5632_S256x5632) u2)
    (mulf (broadcastTo S256x5632 (extractStridedSlice S1x5632 ![1, 0] cw slices_S3x5632_o1_0_S1x5632) broadcasts_S1x5632_S256x5632) u1))
    (mulf (broadcastTo S256x5632 (extractStridedSlice S1x5632 ![2, 0] cw slices_S3x5632_o2_0_S1x5632) broadcasts_S1x5632_S256x5632) u0))
    (broadcastTo S256x5632 (shapeCast S1x5632 cb shapeCasts_S1x5632_S1x5632) broadcasts_S1x5632_S256x5632)

theorem tap_apply (o : ℕ) (ho : o < 3) (w : S3x5632.Slices ![o, 0] S1x5632) (r : Fin 256) (c : Fin 5632) :
    broadcastTo S256x5632 (extractStridedSlice S1x5632 ![o, 0] cw w) broadcasts_S1x5632_S256x5632 (ix2 r c) = taps cw ⟨o, ho⟩ c := by
  rw [broadcastTo_1b_ab_apply]
  refine extractStridedSlice_apply _ cw w (ix2 0 c) (ix2 ⟨o, ho⟩ c) fun a => ?_
  match a with
  | ⟨0, _⟩ => rfl
  | ⟨1, _⟩ => exact (Nat.zero_add _).symm

theorem mixed_apply (r : Fin 256) (c : Fin 5632) :
    mixed u2 u1 u0 cw cb (ix2 r c)
      = mix (taps cw) (bias cb) (fun c => u2 (ix2 r c)) (fun c => u1 (ix2 r c)) (fun c => u0 (ix2 r c)) c := by
  unfold mixed
  rw [addf_apply, addf_apply, addf_apply, mulf_apply, mulf_apply, mulf_apply, tap_apply cw 0 (by decide), tap_apply cw 1 (by decide),
    tap_apply cw 2 (by decide), broadcastTo_1b_ab_apply, shapeCast_self]
  rfl
end

/-- The gate and its value, as the kernel writes them. -/
def gate (v : FVec Ideal S256x5632 .f32) : FVec Ideal S256x2816 .f32 :=
  mulf (mulf (extractStridedSlice S256x2816 ![0, 0] v slices_S256x5632_o0_0_S256x2816)
    (divf (broadcast S256x2816 (Scalar.ofBits .f32 0x3F800000#32)) (addf (broadcast S256x2816 (Scalar.ofBits .f32 0x3F800000#32))
      (exp (subf (broadcast S256x2816 (Scalar.ofBits .f32 0x00000000#32)) (extractStridedSlice S256x2816 ![0, 0] v slices_S256x5632_o0_0_S256x2816))))))
    (extractStridedSlice S256x2816 ![0, 2816] v slices_S256x5632_o0_2816_S256x2816)

theorem gate_apply (v : FVec Ideal S256x5632 .f32) (r : Fin 256) (f : Fin 2816) :
    gate v (ix2 r f) = gated (fun c => v (ix2 r c)) f := by
  have e0 : extractStridedSlice S256x2816 ![0, 0] v slices_S256x5632_o0_0_S256x2816 (ix2 r f) = v (ix2 r (gateChannel f)) :=
    extractStridedSlice_apply _ v _ _ _ fun a => by
      match a with
      | ⟨0, _⟩ => exact (Nat.zero_add _).symm
      | ⟨1, _⟩ => exact (Nat.zero_add _).symm
  have e1 : extractStridedSlice S256x2816 ![0, 2816] v slices_S256x5632_o0_2816_S256x2816 (ix2 r f) = v (ix2 r (valueChannel f)) :=
    extractStridedSlice_apply _ v _ _ _ fun a => by
      match a with
      | ⟨0, _⟩ => exact (Nat.zero_add _).symm
      | ⟨1, _⟩ => rfl
  have ez : Ideal.exp (Ideal.ofBits .f32 0x00000000#32 - v (ix2 r (gateChannel f))) = Ideal.exp (-v (ix2 r (gateChannel f))) := by
    rw [Ideal.ofBits_zero_f32, zero_sub]
  unfold gate gated
  rw [mulf_apply, mulf_apply, divf_apply, addf_apply, e0, e1, ← ez]
  refine congrArg (fun y => v (ix2 r (gateChannel f)) * Ideal.div one (one + y) * v (ix2 r (valueChannel f))) ?_
  show Ideal.exp (Ideal.ofBits .f32 0x00000000#32 - extractStridedSlice S256x2816 ![0, 0] v slices_S256x5632_o0_0_S256x2816 (ix2 r f)) = _
  rw [e0]

/-! ## The second product and the layer norm -/

theorem second_apply (a : FVec Ideal S256x2816 .f32) (w : Vec Ideal S2816x1024 .bf16) (r : Fin 256) (d : Fin 1024) :
    matmul (φ₂ := .bf16) dot_S256x2816_S2816x1024_S256x1024_1_0_0_1_n_n none (truncf .bf16 a bitsLt_bf16_f32 : FVec Ideal S256x2816 .bf16)
        (shapeCast S2816x1024 w shapeCasts_S2816x1024_S2816x1024) (constant S256x1024 .f32 0x00000000#32) (ix2 r d)
      = ∑ f : Fin 2816, a (ix2 r f) * down w f d := by
  refine (Ideal.matmul_plain_apply (M := 256) (K := 2816) (N := 1024) none _ _ _ r d).trans ?_
  rw [constant_apply, Ideal.ofBits_zero_f32, zero_add, shapeCast_self]
  rfl

theorem lift_last (h : S256x1024.Reduces [1] S256) (r : Fin 256) (d : Fin 1024) : h.lift (ix1 r) d = ix2 r d := by
  funext c; match c with | ⟨0, _⟩ => rfl | ⟨1, _⟩ => rfl

theorem column_apply (v : FVec Ideal S256x1 .f32) (r : Fin 256) (d : Fin 1024) :
    broadcastTo S256x1024 v broadcasts_S256x1_S256x1024 (ix2 r d) = v (ix2 r 0) := by
  refine broadcastTo_apply v _ (ix2 r d) (ix2 r 0) fun a => ?_
  match a with
  | ⟨0, _⟩ => rfl
  | ⟨1, _⟩ => rfl

/-- A row's mean, as the kernel writes it. -/
def rowMean (z : FVec Ideal S256x1024 .f32) : FVec Ideal S256x1 .f32 :=
  divf (shapeCast S256x1 (multiReduction .add [1] S256 z 0x00000000#32 reduces_S256x1024_S256 (.inl rfl) rfl) shapeCasts_S256_S256x1)
    (broadcast S256x1 (Scalar.ofBits .f32 0x44800000#32))

theorem rowMean_apply (z : FVec Ideal S256x1024 .f32) (r : Fin 256) : rowMean z (ix2 r 0) = mean fun d => z (ix2 r d) := by
  unfold rowMean
  rw [divf_apply, shapeCast_a_a1_apply, broadcast_apply]
  refine congrArg (Ideal.div · width) ((Ideal.multiReduction_add_single z _ reduces_S256x1024_S256 _ _ (ix1 r)).trans ?_)
  exact Finset.sum_congr rfl fun d _ => congrArg z (lift_last _ r d)

/-- The centred rows. -/
def centred (z : FVec Ideal S256x1024 .f32) : FVec Ideal S256x1024 .f32 :=
  subf z (broadcastTo S256x1024 (rowMean z) broadcasts_S256x1_S256x1024)

theorem centred_apply (z : FVec Ideal S256x1024 .f32) (r : Fin 256) (d : Fin 1024) :
    centred z (ix2 r d) = z (ix2 r d) - mean fun d => z (ix2 r d) := by
  unfold centred
  rw [subf_apply, column_apply, rowMean_apply]

/-- The layer norm, as the kernel writes it. -/
def normed (z : FVec Ideal S256x1024 .f32) (g b : Vec Ideal S1x1024 .f32) : FVec Ideal S256x1024 .f32 :=
  addf (mulf (mulf (centred z) (broadcastTo S256x1024 (rsqrt (addf (rowMean (mulf (centred z) (centred z)))
      (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

theorem normed_apply (z : FVec Ideal S256x1024 .f32) (g b : Vec Ideal S1x1024 .f32) (r : Fin 256) (d : Fin 1024) :
    normed z g b (ix2 r d) = norm (fun d => z (ix2 r d)) (vec2 g) (vec2 b) d := by
  have e : rsqrt (addf (rowMean (mulf (centred z) (centred z))) (broadcast S256x1 (Scalar.ofBits .f32 0x3727C5AC#32))) (ix2 r 0)
      = Ideal.rsqrt (mean (fun e => (z (ix2 r e) - mean fun d => z (ix2 r d)) * (z (ix2 r e) - mean fun d => z (ix2 r d))) + eps) := by
    show Ideal.rsqrt (rowMean (mulf (centred z) (centred z)) (ix2 r 0) + eps) = _
    rw [rowMean_apply]
    simp only [mulf_apply, centred_apply]
  unfold normed norm
  rw [addf_apply, mulf_apply, mulf_apply, centred_apply, column_apply, e, broadcastTo_1b_ab_apply, broadcastTo_1b_ab_apply,
    shapeCast_self, shapeCast_self]
  rfl

/-! ## The tile's result -/

/-- What a tile stores, from its operands and the rows carried from the tile before. -/
def outTile (x : Vec Ideal S1x256x1024 .f32) (sc sh g2 : Vec Ideal S1x1x1024 .f32) (w : Vec Ideal S1024x5632 .bf16) (cw : Vec Ideal S3x5632 .f32)
    (cb : Vec Ideal S1x5632 .f32) (wd : Vec Ideal S2816x1024 .bf16) (g b : Vec Ideal S1x1024 .f32) (h : Vec Ideal S8x5632 .f32) : Vec Ideal S1x256x1024 .f32 :=
  k0_pay1 (F := Ideal) (k0_pay12 (F := Ideal) (k0_pay3 x sc sh w) (k0_pay5 x sc sh w h) (k0_pay6 x sc sh w) k0_pay7 (k0_pay8 h) k0_pay9 (k0_pay10 h) cw cb wd)
    (k0_pay13 (k0_pay2 x)) g2 g b

theorem pay1_eq (y z : FVec Ideal S256x1024 .f32) (g2 : Vec Ideal S1x1x1024 .f32) (g b : Vec Ideal S1x1024 .f32) :
    k0_pay1 (F := Ideal) y z g2 g b = shapeCast S1x256x1024 (normed (addf z (mulf (broadcastTo S256x1024
      (shapeCast S1x1024 g2 shapeCasts_S1x1x1024_S1x1024) broadcasts_S1x1024_S256x1024) y)) g b) shapeCasts_S256x1024_S1x256x1024 := rfl

theorem pay12_eq (x : Vec Ideal S1x256x1024 .f32) (sc sh : Vec Ideal S1x1x1024 .f32) (w : Vec Ideal S1024x5632 .bf16) (h : Vec Ideal S8x5632 .f32)
    (u1 u0 : FVec Ideal S256x5632 .f32) (cw : Vec Ideal S3x5632 .f32) (cb : Vec Ideal S1x5632 .f32) (wd : Vec Ideal S2816x1024 .bf16) :
    k0_pay12 (F := Ideal) u0 u1 (k0_pay6 x sc sh w) k0_pay7 (k0_pay8 h) k0_pay9 (k0_pay10 h) cw cb wd
      = matmul (φ₂ := .bf16) dot_S256x2816_S2816x1024_S256x1024_1_0_0_1_n_n none (truncf .bf16 (gate (mixed (shift2 x sc sh w h) u1 u0 cw cb)) bitsLt_bf16_f32 : FVec Ideal S256x2816 .bf16)
        (shapeCast S2816x1024 wd shapeCasts_S2816x1024_S2816x1024) (constant S256x1024 .f32 0x00000000#32) := rfl

theorem outTile_apply (x : Vec Ideal S1x256x1024 .f32) (sc sh g2 : Vec Ideal S1x1x1024 .f32) (w : Vec Ideal S1024x5632 .bf16) (cw : Vec Ideal S3x5632 .f32)
    (cb : Vec Ideal S1x5632 .f32) (wd : Vec Ideal S2816x1024 .bf16) (g b : Vec Ideal S1x1024 .f32) (h : Vec Ideal S8x5632 .f32) (r : Fin 256) (d : Fin 1024) :
    outTile x sc sh g2 w cw cb wd g b h (ix3 0 r d)
      = token (tokens x r) (vec3 g2) (shifted (past h) (lifted x sc sh w) 2 (by decide) r) (shifted (past h) (lifted x sc sh w) 1 (by decide) r)
        (lifted x sc sh w r) (taps cw) (bias cb) (down wd) (vec2 g) (vec2 b) d := by
  unfold outTile token
  rw [pay1_eq, pay12_eq, shapeCast_ab_1ab_apply, normed_apply]
  refine congrArg (norm · (vec2 g) (vec2 b) d) (funext fun e => ?_)
  rw [addf_apply, mulf_apply, broadcastTo_1b_ab_apply, shapeCast_1ab_ab_apply, second_apply]
  refine congrArg₂ (fun p q => p + g2 (ix3 0 0 e) * q) ?_ (Finset.sum_congr rfl fun f _ => congrArg (· * down wd f e) ?_)
  · unfold k0_pay13 k0_pay2
    rw [mulf_apply, broadcast_apply, shapeCast_1ab_ab_apply]
    rfl
  · rw [gate_apply]
    refine congrArg (gated · f) (funext fun c => ?_)
    rw [mixed_apply]
    simp only [shift2_apply, pay5_apply, pay3_apply]

end Cert.Ffn

end
-- ==== Proof.FfnState.lean ====
/- What a grid point of the feed-forward kernel leaves: the tile's result, over the rows the point before carried, and its
   own last rows to carry on. -/
module

public import proofs.«01_k».proof.Proof.Gen.Kernel2Ideal.Value
public import proofs.«01_k».proof.Proof.FfnTile
public import Idealize.ShloMosaic.Lib.Pipeline.ValueKit
public import Idealize.ShloMosaic.Lib.Pipeline.ReadBack

@[expose] public section

noncomputable section

namespace Cert.Ffn

open Idealize.ShloMosaic hiding ix1 ix2 ix3 ix4
open Idealize.ShloMosaic.ValueIdx Idealize.ShloMosaic.TcCoe Cert.Kernel2Ideal Cert.Kernel2Ideal.Gen Cert.Kernel2Ideal.Value

variable (m : (ℓ : Loc nD τ sig) → Buf (Elt Ideal) ℓ) (c : Dev nD)

/-- The tile's result over the carried rows `h`. -/
def pointOut (t : Fin cfg0.N) (h : Vec Ideal S8x5632 .f32) : Vec Ideal S1x256x1024 .f32 :=
  outTile (iblk m c 0 t) (iblk m c 1 t) (iblk m c 2 t) (iblk m c 3 t) (iblk m c 4 t) (iblk m c 5 t) (iblk m c 6 t) (iblk m c 7 t)
    (iblk m c 8 t) (iblk m c 9 t) h

/-- The rows a point carries to the next. -/
def carried (t : Fin cfg0.N) : Vec Ideal S8x5632 .f32 :=
  k0_pay11 (F := Ideal) (k0_pay3 (F := Ideal) (iblk m c 0 t) (iblk m c 1 t) (iblk m c 2 t) (iblk m c 4 t))

/-- A sequence's first point. -/
theorem out_A (t : Fin cfg0.N) (acc : Vec Ideal S1x256x1024 .f32 × Vec Ideal S8x5632 .f32) (h0 : t.val % 64 = 0) :
    (stAt0 m c t.val t.isLt acc).1 = pointOut m c t (k0_pay4 (F := Ideal)) := by
  rw [stAt0_A m c t acc h0]
  unfold pointOut
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  rfl

/-- A later point of a sequence. -/
theorem out_B (t : Fin cfg0.N) (acc : Vec Ideal S1x256x1024 .f32 × Vec Ideal S8x5632 .f32) (h0 : ¬t.val % 64 = 0) :
    (stAt0 m c t.val t.isLt acc).1 = pointOut m c t acc.2 := by
  rw [stAt0_B m c t acc h0]
  unfold pointOut
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  obtain ⟨o, xs⟩ := acc
  frame_out
  rw [read_unread_whole cc0_scratch0 _ xs]
  rfl

theorem carried_A (t : Fin cfg0.N) (acc : Vec Ideal S1x256x1024 .f32 × Vec Ideal S8x5632 .f32) (h0 : t.val % 64 = 0) :
    (stAt0 m c t.val t.isLt acc).2 = carried m c t := by
  rw [stAt0_A m c t acc h0]
  unfold carried
  generalize iblk m c 0 t = x0
  generalize iblk m c 1 t = x1
  generalize iblk m c 2 t = x2
  generalize iblk m c 4 t = x4
  frame_out

theorem carried_B (t : Fin cfg0.N) (acc : Vec Ideal S1x256x1024 .f32 × Vec Ideal S8x5632 .f32) (h0 : ¬t.val % 64 = 0) :
    (stAt0 m c t.val t.isLt acc).2 = carried m c t := by
  rw [stAt0_B m c t acc h0]
  unfold carried
  generalize iblk m c 0 t = x0
  generalize iblk m c 1 t = x1
  generalize iblk m c 2 t = x2
  generalize iblk m c 4 t = x4
  obtain ⟨o, xs⟩ := acc
  frame_out

/-- What a point leaves is one step over something. -/
theorem outs_step (n : ℕ) (hn : n < cfg0.N) : ∃ acc, outsAt0 m c n hn = stAt0 m c n hn acc := by
  cases n with
  | zero => exact ⟨junk0, outsAt0_zero m c hn⟩
  | succ k => exact ⟨_, outsAt0_succ m c k hn⟩

/-- After any point its own last rows are carried. -/
theorem outs_carried (t : Fin cfg0.N) : (outsAt0 m c t.val t.isLt).2 = carried m c t := by
  obtain ⟨acc, e⟩ := outs_step m c t.val t.isLt
  rw [e]
  by_cases h0 : t.val % 64 = 0
  · exact carried_A m c t acc h0
  · exact carried_B m c t acc h0

/-- The result of a sequence's first point is over zero rows. -/
theorem outs_first (t : Fin cfg0.N) (h0 : t.val % 64 = 0) : (outsAt0 m c t.val t.isLt).1 = pointOut m c t (k0_pay4 (F := Ideal)) := by
  obtain ⟨acc, e⟩ := outs_step m c t.val t.isLt
  rw [e]
  exact out_A m c t acc h0

/-- The result of any other is over the rows of the point before. -/
theorem outs_later (k : ℕ) (hk : k + 1 < cfg0.N) (h0 : ¬(k + 1) % 64 = 0) :
    (outsAt0 m c (k + 1) hk).1 = pointOut m c ⟨k + 1, hk⟩ (carried m c ⟨k, Nat.lt_of_succ_lt hk⟩) := by
  rw [outsAt0_succ, ← outs_carried m c ⟨k, Nat.lt_of_succ_lt hk⟩]
  exact out_B m c ⟨k + 1, hk⟩ _ h0

end Cert.Ffn

end
-- ==== Proof.FfnBlocks.lean ====
/- The blocks a grid point of the feed-forward kernel reads, by the coordinates of the arguments. -/
module

public import proofs.«01_k».proof.Proof.Gen.Kernel2Ideal.Frame.Runs
public import proofs.«01_k».proof.Proof.FfnTile
public import Idealize.ShloMosaic.Lib.Claim
public import Idealize.ShloMosaic.Lib.Pointwise
public import Idealize.ShloMosaic.Lib.Pipeline.ValueKit

@[expose] public section

noncomputable section

namespace Cert.Ffn

open Idealize.ShloMosaic hiding ix1 ix2 ix3 ix4
open Idealize.ShloMosaic.ValueIdx Idealize.ShloMosaic.TcCoe Cert.Kernel2Ideal Cert.Kernel2Ideal.Gen

variable (m : (ℓ : Loc nD τ sig) → Buf (Elt Ideal) ℓ) (c : Dev nD)

/-! ## The arguments by coordinates -/

def argX (s : Fin 2) (q : Fin 16384) (d : Fin 1024) : EReal := m ((c.tc : Thread nD τ).loc main_arg0) (ix3 s q d)
def argScale (s : Fin 2) (d : Fin 1024) : EReal := m ((c.tc : Thread nD τ).loc main_arg1) (ix2 s d)
def argShift (s : Fin 2) (d : Fin 1024) : EReal := m ((c.tc : Thread nD τ).loc main_arg2) (ix2 s d)
def argGate (s : Fin 2) (d : Fin 1024) : EReal := m ((c.tc : Thread nD τ).loc main_arg3) (ix2 s d)
def argUp (d : Fin 1024) (f : Fin 5632) : EReal := m ((c.tc : Thread nD τ).loc main_arg4) (ix2 d f)
def argTaps (k : Fin 3) (f : Fin 5632) : EReal := m ((c.tc : Thread nD τ).loc main_arg5) (ix2 k f)
def argBias (f : Fin 5632) : EReal := m ((c.tc : Thread nD τ).loc main_arg6) (ix1 f)
def argDown (f : Fin 2816) (d : Fin 1024) : EReal := m ((c.tc : Thread nD τ).loc main_arg7) (ix2 f d)
def argGain (d : Fin 1024) : EReal := m ((c.tc : Thread nD τ).loc main_arg8) (ix1 d)
def argOffset (d : Fin 1024) : EReal := m ((c.tc : Thread nD τ).loc main_arg9) (ix1 d)

/-! ## The operands by coordinates -/

theorem scale_entry (s : Fin 2) (d : Fin 1024) : (V m c main_v0 : S2x1x1024.Idx → EReal) (ix3 s 0 d) = argScale m c s d := by
  entry_read
  exact broadcastInDim_apply _ _ _ _ (ix2 s d) fun a => by match a with | ⟨0, _⟩ => rfl | ⟨1, _⟩ => rfl

theorem shift_entry (s : Fin 2) (d : Fin 1024) : (V m c main_v1 : S2x1x1024.Idx → EReal) (ix3 s 0 d) = argShift m c s d := by
  entry_read
  exact broadcastInDim_apply _ _ _ _ (ix2 s d) fun a => by match a with | ⟨0, _⟩ => rfl | ⟨1, _⟩ => rfl

theorem gate_entry (s : Fin 2) (d : Fin 1024) : (V m c main_v2 : S2x1x1024.Idx → EReal) (ix3 s 0 d) = argGate m c s d := by
  entry_read
  exact broadcastInDim_apply _ _ _ _ (ix2 s d) fun a => by match a with | ⟨0, _⟩ => rfl | ⟨1, _⟩ => rfl

theorem up_entry (d : Fin 1024) (f : Fin 5632) : (V m c main_v3 : S1024x5632.Idx → EReal) (ix2 d f) = argUp m c d f := by
  entry_read
  rfl

theorem bias_entry (f : Fin 5632) : (V m c main_v4 : S1x5632.Idx → EReal) (ix2 0 f) = argBias m c f := by
  entry_read
  exact shapeCast_a_1a_apply _ _ _ _

theorem down_entry (f : Fin 2816) (d : Fin 1024) : (V m c main_v5 : S2816x1024.Idx → EReal) (ix2 f d) = argDown m c f d := by
  entry_read
  rfl

theorem gain_entry (d : Fin 1024) : (V m c main_v6 : S1x1024.Idx → EReal) (ix2 0 d) = argGain m c d := by
  entry_read
  exact shapeCast_a_1a_apply _ _ _ _

theorem offset_entry (d : Fin 1024) : (V m c main_v7 : S1x1024.Idx → EReal) (ix2 0 d) = argOffset m c d := by
  entry_read
  exact shapeCast_a_1a_apply _ _ _ _

theorem x_entry (s : Fin 2) (q : Fin 16384) (d : Fin 1024) : (V m c main_arg0 : S2x16384x1024.Idx → EReal) (ix3 s q d) = argX m c s q d := by
  entry_read
  rfl

theorem taps_entry (k : Fin 3) (f : Fin 5632) : (V m c main_arg5 : S3x5632.Idx → EReal) (ix2 k f) = argTaps m c k f := by
  entry_read
  rfl

/-! ## Where a grid point reads -/

/-- The sequence of a grid point, and the token of a grid point at a row. -/
def seqOf (n : ℕ) : Fin 2 := ⟨n / 64 % 2, Nat.mod_lt _ (by decide)⟩
def tokenOf (n : ℕ) (r : Fin 256) : Fin 16384 := ⟨256 * (n % 64) + r.val, by omega⟩

theorem coord_seq (t : Fin cfg0.N) : (grid0.coords t 0).val = t.val / 64 % 2 := Pipeline.Grid.coords_val t 0 (by decide) rfl

theorem coord_tile (t : Fin cfg0.N) : (grid0.coords t 1).val = t.val % 64 := by
  have e : (grid0.coords t 1).val = t.val / 1 % 64 := Pipeline.Grid.coords_val t 1 (by decide) rfl
  rwa [Nat.div_one] at e

theorem seq_word (t : Fin cfg0.N) : (BitVec.ofNat 32 (grid0.coords t 0).val).toNat = t.val / 64 % 2 := by
  rw [coord_seq, WordCmp.toNat_ofNat_of_lt (by omega)]

theorem tile_word (t : Fin cfg0.N) : (BitVec.ofNat 32 (grid0.coords t 1).val).toNat = t.val % 64 := by
  rw [coord_tile, WordCmp.toNat_ofNat_of_lt (by omega)]

theorem index_x (t : Fin cfg0.N) : win0_0.index t = ![t.val / 64 % 2, t.val % 64, 0] := by
  funext a
  match a with
  | ⟨0, _⟩ => exact seq_word t
  | ⟨1, _⟩ => exact tile_word t
  | ⟨2, _⟩ => rfl

theorem index_scale (t : Fin cfg0.N) : win0_1.index t = ![t.val / 64 % 2, 0, 0] := by
  funext a
  match a with | ⟨0, _⟩ => exact seq_word t | ⟨1, _⟩ => rfl | ⟨2, _⟩ => rfl

theorem index_shift (t : Fin cfg0.N) : win0_2.index t = ![t.val / 64 % 2, 0, 0] := by
  funext a
  match a with | ⟨0, _⟩ => exact seq_word t | ⟨1, _⟩ => rfl | ⟨2, _⟩ => rfl

theorem index_gate (t : Fin cfg0.N) : win0_3.index t = ![t.val / 64 % 2, 0, 0] := by
  funext a
  match a with | ⟨0, _⟩ => exact seq_word t | ⟨1, _⟩ => rfl | ⟨2, _⟩ => rfl

/-! ## The blocks of a grid point -/

theorem x_block (t : Fin cfg0.N) : iblk m c 0 t = ((cfg0.win 0).blk t).view.read (Elt Ideal) (V m c main_arg0) := rfl

theorem x_read (t : Fin cfg0.N) (y : S1x256x1024.Idx) (W : S2x16384x1024.Idx → EReal) :
    (((cfg0.win 0).blk t).view.read (Elt Ideal) W : Vec Ideal S1x256x1024 .f32) y = W (((cfg0.win 0).blk t).view.emb y) := rfl

theorem x_place (t : Fin cfg0.N) (r : Fin 256) (d : Fin 1024) (e : S2x16384x1024.Idx)
    (he : ∀ a, (e a : ℕ) = win0_0.index t a * win0_0.size a + ((ix3 0 r d : S1x256x1024.Idx) a : ℕ)) :
    e = ix3 (seqOf t.val) (tokenOf t.val r) d := by
  funext a
  refine Fin.ext ((he a).trans ?_)
  rw [index_x]
  match a with
  | ⟨0, _⟩ => show t.val / 64 % 2 * 1 + 0 = t.val / 64 % 2; omega
  | ⟨1, _⟩ => show t.val % 64 * 256 + r.val = 256 * (t.val % 64) + r.val; omega
  | ⟨2, _⟩ => show 0 * 1024 + d.val = d.val; omega

theorem x_tokens (t : Fin cfg0.N) (r : Fin 256) : tokens (iblk m c 0 t) r = argX m c (seqOf t.val) (tokenOf t.val r) := by
  funext d
  unfold tokens
  rw [x_block, ← x_entry]
  generalize V m c main_arg0 = W
  refine (x_read t (ix3 0 r d) W).trans (congrArg W ?_)
  exact x_place t r d _ fun a => Pipeline.Window.rect_emb_val win0_0 t (ix3 0 r d) a

theorem scale_vec (t : Fin cfg0.N) : vec3 (iblk m c 1 t) = argScale m c (seqOf t.val) := by
  funext d
  refine Eq.trans (congrArg (V m c main_v0 : S2x1x1024.Idx → EReal) (funext fun a => Fin.ext ?_)) (scale_entry m c (seqOf t.val) d)
  refine (Pipeline.Window.rect_emb_val win0_1 t (ix3 0 0 d) a).trans ?_
  rw [index_scale]
  match a with
  | ⟨0, _⟩ => show t.val / 64 % 2 * 1 + 0 = t.val / 64 % 2; omega
  | ⟨1, _⟩ => rfl
  | ⟨2, _⟩ => show 0 * 1024 + d.val = d.val; omega

theorem shift_vec (t : Fin cfg0.N) : vec3 (iblk m c 2 t) = argShift m c (seqOf t.val) := by
  funext d
  refine Eq.trans (congrArg (V m c main_v1 : S2x1x1024.Idx → EReal) (funext fun a => Fin.ext ?_)) (shift_entry m c (seqOf t.val) d)
  refine (Pipeline.Window.rect_emb_val win0_2 t (ix3 0 0 d) a).trans ?_
  rw [index_shift]
  match a with
  | ⟨0, _⟩ => show t.val / 64 % 2 * 1 + 0 = t.val / 64 % 2; omega
  | ⟨1, _⟩ => rfl
  | ⟨2, _⟩ => show 0 * 1024 + d.val = d.val; omega

theorem gate_vec (t : Fin cfg0.N) : vec3 (iblk m c 3 t) = argGate m c (seqOf t.val) := by
  funext d
  refine Eq.trans (congrArg (V m c main_v2 : S2x1x1024.Idx → EReal) (funext fun a => Fin.ext ?_)) (gate_entry m c (seqOf t.val) d)
  refine (Pipeline.Window.rect_emb_val win0_3 t (ix3 0 0 d) a).trans ?_
  rw [index_gate]
  match a with
  | ⟨0, _⟩ => show t.val / 64 % 2 * 1 + 0 = t.val / 64 % 2; omega
  | ⟨1, _⟩ => rfl
  | ⟨2, _⟩ => show 0 * 1024 + d.val = d.val; omega

theorem up_block (t : Fin cfg0.N) : iblk m c 4 t = ((cfg0.win 4).blk t).view.read (Elt Ideal) (V m c main_v3) := rfl

theorem up_read (t : Fin cfg0.N) (y : S1024x5632.Idx) (W : S1024x5632.Idx → EReal) :
    (((cfg0.win 4).blk t).view.read (Elt Ideal) W : Vec Ideal S1024x5632 .bf16) y = W (((cfg0.win 4).blk t).view.emb y) := rfl

theorem up_place (t : Fin cfg0.N) (d : Fin 1024) (f : Fin 5632) (e : S1024x5632.Idx)
    (he : ∀ a, (e a : ℕ) = win0_4.index t a * win0_4.size a + ((ix2 d f : S1024x5632.Idx) a : ℕ)) : e = ix2 d f := by
  funext a
  refine Fin.ext ((he a).trans ?_)
  match a with
  | ⟨0, _⟩ => show 0 * 1024 + d.val = d.val; omega
  | ⟨1, _⟩ => show 0 * 5632 + f.val = f.val; omega

theorem up_all (t : Fin cfg0.N) : up (iblk m c 4 t) = argUp m c := by
  funext d f
  unfold up
  rw [up_block, ← up_entry]
  generalize V m c main_v3 = W
  refine (up_read t (ix2 d f) W).trans (congrArg W ?_)
  exact up_place t d f _ fun a => Pipeline.Window.rect_emb_val win0_4 t (ix2 d f) a

theorem taps_all (t : Fin cfg0.N) : taps (iblk m c 5 t) = argTaps m c := by
  funext k f
  refine Eq.trans (congrArg (V m c main_arg5 : S3x5632.Idx → EReal) (funext fun a => Fin.ext ?_)) (taps_entry m c k f)
  refine (Pipeline.Window.rect_emb_val win0_5 t (ix2 k f) a).trans ?_
  match a with
  | ⟨0, _⟩ => show 0 * 3 + k.val = k.val; omega
  | ⟨1, _⟩ => show 0 * 5632 + f.val = f.val; omega

theorem bias_all (t : Fin cfg0.N) : bias (iblk m c 6 t) = argBias m c := by
  funext f
  refine Eq.trans (congrArg (V m c main_v4 : S1x5632.Idx → EReal) (funext fun a => Fin.ext ?_)) (bias_entry m c f)
  refine (Pipeline.Window.rect_emb_val win0_6 t (ix2 0 f) a).trans ?_
  match a with
  | ⟨0, _⟩ => rfl
  | ⟨1, _⟩ => show 0 * 5632 + f.val = f.val; omega

theorem down_block (t : Fin cfg0.N) : iblk m c 7 t = ((cfg0.win 7).blk t).view.read (Elt Ideal) (V m c main_v5) := rfl

theorem down_read (t : Fin cfg0.N) (y : S2816x1024.Idx) (W : S2816x1024.Idx → EReal) :
    (((cfg0.win 7).blk t).view.read (Elt Ideal) W : Vec Ideal S2816x1024 .bf16) y = W (((cfg0.win 7).blk t).view.emb y) := rfl

theorem down_place (t : Fin cfg0.N) (f : Fin 2816) (d : Fin 1024) (e : S2816x1024.Idx)
    (he : ∀ a, (e a : ℕ) = win0_7.index t a * win0_7.size a + ((ix2 f d : S2816x1024.Idx) a : ℕ)) : e = ix2 f d := by
  funext a
  refine Fin.ext ((he a).trans ?_)
  match a with
  | ⟨0, _⟩ => show 0 * 2816 + f.val = f.val; omega
  | ⟨1, _⟩ => show 0 * 1024 + d.val = d.val; omega

theorem down_all (t : Fin cfg0.N) : down (iblk m c 7 t) = argDown m c := by
  funext f d
  unfold down
  rw [down_block, ← down_entry]
  generalize V m c main_v5 = W
  refine (down_read t (ix2 f d) W).trans (congrArg W ?_)
  exact down_place t f d _ fun a => Pipeline.Window.rect_emb_val win0_7 t (ix2 f d) a

theorem gain_all (t : Fin cfg0.N) : vec2 (iblk m c 8 t) = argGain m c := by
  funext d
  refine Eq.trans (congrArg (V m c main_v6 : S1x1024.Idx → EReal) (funext fun a => Fin.ext ?_)) (gain_entry m c d)
  refine (Pipeline.Window.rect_emb_val win0_8 t (ix2 0 d) a).trans ?_
  match a with
  | ⟨0, _⟩ => rfl
  | ⟨1, _⟩ => show 0 * 1024 + d.val = d.val; omega

theorem offset_all (t : Fin cfg0.N) : vec2 (iblk m c 9 t) = argOffset m c := by
  funext d
  refine Eq.trans (congrArg (V m c main_v7 : S1x1024.Idx → EReal) (funext fun a => Fin.ext ?_)) (offset_entry m c d)
  refine (Pipeline.Window.rect_emb_val win0_9 t (ix2 0 d) a).trans ?_
  match a with
  | ⟨0, _⟩ => rfl
  | ⟨1, _⟩ => show 0 * 1024 + d.val = d.val; omega

/-- The lifted channels of a grid point's tokens. -/
theorem lifted_point (t : Fin cfg0.N) (r : Fin 256) :
    lifted (iblk m c 0 t) (iblk m c 1 t) (iblk m c 2 t) (iblk m c 4 t) r
      = lift (argX m c (seqOf t.val) (tokenOf t.val r)) (argScale m c (seqOf t.val)) (argShift m c (seqOf t.val)) (argUp m c) := by
  unfold lifted
  rw [x_tokens, scale_vec, shift_vec, up_all]

end Cert.Ffn

end
-- ==== Proof.FfnResult.lean ====
/- The result of the feed-forward kernel, by coordinates: the feed-forward part of its arguments. -/
module

public import proofs.«01_k».proof.Proof.FfnState
public import proofs.«01_k».proof.Proof.FfnBlocks

@[expose] public section

noncomputable section

namespace Cert.Ffn

open Idealize.ShloMosaic hiding ix1 ix2 ix3 ix4
open Idealize.ShloMosaic.ValueIdx Idealize.ShloMosaic.TcCoe Cert.Kernel2Ideal Cert.Kernel2Ideal.Gen Cert.Kernel2Ideal.Value

variable (m : (ℓ : Loc nD τ sig) → Buf (Elt Ideal) ℓ) (c : Dev nD)

/-- The lifted channels of a sequence. -/
abbrev channels (s : Fin 2) (q : Fin 16384) : Fin 5632 → EReal :=
  lift (argX m c s q) (argScale m c s) (argShift m c s) (argUp m c)

/-- A tile's shifts are the sequence's, where the carried rows are. -/
theorem shifted_eq (n : ℕ) (U : Fin 16384 → Fin 5632 → EReal) (h : Fin 8 → Fin 5632 → EReal) (u : Fin 256 → Fin 5632 → EReal)
    (hu : ∀ r, u r = U (tokenOf n r)) (h0 : n % 64 = 0 → ∀ j f, h j f = 0)
    (h1 : ¬n % 64 = 0 → ∀ (j : Fin 8) (f : Fin 5632), h j f = U ⟨256 * (n % 64 - 1) + 248 + j.val, by omega⟩ f)
    (k : ℕ) (hk : k ≤ 2) (r : Fin 256) : shifted h u k hk r = before U k (tokenOf n r) := by
  have hr := r.isLt
  have hv : (tokenOf n r).val = 256 * (n % 64) + r.val := rfl
  funext f
  unfold shifted before
  by_cases e : k ≤ r.val
  · rw [if_pos e, if_pos (by omega), hu]
    exact congrArg (U · f) (Fin.ext (show 256 * (n % 64) + (r.val - k) = (tokenOf n r).val - k by omega))
  · rw [if_neg e]
    by_cases hn : n % 64 = 0
    · rw [if_neg (by omega)]
      exact h0 hn _ f
    · rw [if_pos (by omega), h1 hn]
      exact congrArg (U · f) (Fin.ext (show 256 * (n % 64 - 1) + 248 + (8 + r.val - k) % 8 = (tokenOf n r).val - k by omega))

/-- A grid point's result, over any rows carried as the sequence's. -/
theorem pointOut_apply (t : Fin cfg0.N) (h : Vec Ideal S8x5632 .f32) (h0 : t.val % 64 = 0 → ∀ j f, past h j f = 0)
    (h1 : ¬t.val % 64 = 0 → ∀ (j : Fin 8) (f : Fin 5632), past h j f = channels m c (seqOf t.val) ⟨256 * (t.val % 64 - 1) + 248 + j.val, by omega⟩ f)
    (r : Fin 256) (d : Fin 1024) :
    pointOut m c t h (ix3 0 r d)
      = feedForward (argX m c) (argScale m c) (argShift m c) (argGate m c) (argUp m c) (argTaps m c) (argBias m c) (argDown m c)
        (argGain m c) (argOffset m c) (seqOf t.val) (tokenOf t.val r) d := by
  have hu := lifted_point m c t
  unfold pointOut
  refine (outTile_apply _ _ _ _ _ _ _ _ _ _ _ r d).trans ?_
  rw [shifted_eq t.val (channels m c (seqOf t.val)) _ _ hu h0 h1 2, shifted_eq t.val (channels m c (seqOf t.val)) _ _ hu h0 h1 1, hu,
    x_tokens, gate_vec, taps_all, bias_all, down_all, gain_all, offset_all]
  rfl

/-- A grid point's result. -/
theorem outs_apply (t : Fin cfg0.N) (r : Fin 256) (d : Fin 1024) :
    (outsAt0 m c t.val t.isLt).1 (ix3 0 r d)
      = feedForward (argX m c) (argScale m c) (argShift m c) (argGate m c) (argUp m c) (argTaps m c) (argBias m c) (argDown m c)
        (argGain m c) (argOffset m c) (seqOf t.val) (tokenOf t.val r) d := by
  by_cases e : t.val % 64 = 0
  · rw [outs_first m c t e]
    exact pointOut_apply m c t _ (fun _ => pay4_apply) (fun n => absurd e n) r d
  · obtain ⟨n, hn⟩ := t
    obtain ⟨k, rfl⟩ : ∃ k, n = k + 1 := ⟨n - 1, by have : ¬n % 64 = 0 := e; omega⟩
    rw [show (outsAt0 m c (k + 1) hn).1 = _ from outs_later m c k hn e]
    refine pointOut_apply m c ⟨k + 1, hn⟩ _ (fun z => absurd z e) (fun _ j f => ?_) r d
    have e' : ¬(k + 1) % 64 = 0 := e
    unfold carried
    rw [pay11_apply, lifted_point]
    have es : seqOf k = seqOf (k + 1) := Fin.ext (show k / 64 % 2 = (k + 1) / 64 % 2 by omega)
    have et : tokenOf k ⟨248 + j.val, by omega⟩ = ⟨256 * ((k + 1) % 64 - 1) + 248 + j.val, by omega⟩ :=
      Fin.ext (show 256 * (k % 64) + (248 + j.val) = 256 * ((k + 1) % 64 - 1) + 248 + j.val by omega)
    show lift (argX m c (seqOf k) (tokenOf k ⟨248 + j.val, _⟩)) _ _ _ f = _
    rw [et, es]

/-! ## The result -/

theorem place_apply (s : Fin 2) (q : Fin 16384) (d : Fin 1024) :
    loc10Of (ix3 s q d) = ix3 0 ⟨q.val % 256, Nat.mod_lt _ (by decide)⟩ d := by
  funext a
  refine Fin.ext ?_
  match a with
  | ⟨0, _⟩ => show s.val % 1 = 0; omega
  | ⟨1, _⟩ => rfl
  | ⟨2, _⟩ => show d.val % 1024 = d.val; have := d.isLt; omega

theorem point_apply (s : Fin 2) (q : Fin 16384) (d : Fin 1024) : pt10Of (ix3 s q d) = 64 * s.val + q.val / 256 := by
  show 64 * (s.val / 1 - 0) + 1 * (q.val / 256 - 0) + 1 * (d.val / 1024 - 0) = _
  have := d.isLt
  omega

theorem result_point {n : ℕ} (hn : n < cfg0.N) (s : Fin 2) (q : Fin 16384) (d : Fin 1024) (e : n = 64 * s.val + q.val / 256) :
    (outsAt0 m c n hn).1 (ix3 0 ⟨q.val % 256, Nat.mod_lt _ (by decide)⟩ d)
      = feedForward (argX m c) (argScale m c) (argShift m c) (argGate m c) (argUp m c) (argTaps m c) (argBias m c) (argDown m c)
        (argGain m c) (argOffset m c) s q d := by
  have hq := q.isLt
  have hs := s.isLt
  have es : seqOf n = s := Fin.ext (show n / 64 % 2 = s.val by omega)
  have eq : tokenOf n ⟨q.val % 256, Nat.mod_lt _ (by decide)⟩ = q := Fin.ext (show 256 * (n % 64) + q.val % 256 = q.val by omega)
  refine (outs_apply m c ⟨n, hn⟩ _ d).trans ?_
  show feedForward _ _ _ _ _ _ _ _ _ _ (seqOf n) (tokenOf n _) d = _
  rw [es, eq]

/-- The kernel's result is the feed-forward part of its arguments. -/
theorem kernel_apply (s : Fin 2) (q : Fin 16384) (d : Fin 1024) :
    (G10 m c : S2x16384x1024.Idx → EReal) (ix3 s q d)
      = feedForward (argX m c) (argScale m c) (argShift m c) (argGate m c) (argUp m c) (argTaps m c) (argBias m c) (argDown m c)
        (argGain m c) (argOffset m c) s q d := by
  have hq := q.isLt
  have hs := s.isLt
  have e := point_apply s q d
  have hn : pt10Of (ix3 s q d) < cfg0.N := lt_of_lt_of_eq (by omega) N_0.symm
  rw [G10, dif_pos hn, ← outsAt0_sweep m c _ hn, place_apply]
  exact result_point m c hn s q d e

end Cert.Ffn

end
-- ==== Proof.lean ====
/- The certificate of the attention kernel and of the feed-forward kernel: each of the six programs runs to its end and
   leaves its arguments as they were, the attention kernel's one named constant denotes what it is named for, on finite
   queries and keys the attention kernel's result is its reference's, and on any arguments so is the feed-forward
   kernel's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Finite
public import proofs.«01_k».proof.Proof.Ref
public import proofs.«01_k».proof.Proof.Result
public import proofs.«01_k».proof.Proof.FfnRef
public import proofs.«01_k».proof.Proof.FfnResult
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference is a sequence of host operations: it ends, keeps its arguments and leaves every counter at zero. -/
theorem reference_frame : quiescent_ReferenceIdeal (hReferenceIdeal := Cert.ReferenceIdeal.Gen.facts) := by
  intro m g _
  hlo_run
  · exact fun _ => ⟨trivial, trivial, trivial, trivial, trivial⟩
  · exact sem_eq_zero_of_no_sems (sig := Cert.ReferenceIdeal.sig) (by decide) _

/-- The mask of the printed kernel is named, and read as −∞. -/
theorem mask_named : preserves_Kernel_KernelIdeal :=
  IdealRules.named_const.statement Cert.KernelIdeal.κ "mask" .f32 0xF149F2CA#32 ⊥ rfl

/-- The precondition's side conditions. -/
theorem finite_facts : Cert.Pre_finite.Facts where
  bcast_S_S2x16384x8x64 := by decide
  reducesTo_S2x16384x8x64_S_d0_1_2_3 := by decide
  h_S_ := by decide
  bcast_S_S2x16384x8x32 := by decide
  reducesTo_S2x16384x8x32_S_d0_1_2_3 := by decide
  bcast_S_S2x16384x32 := by decide
  reducesTo_S2x16384x32_S_d0_1_2 := by decide

open Cert.Attn

/-- An index of the result, by its sequence, head, feature and query. -/
theorem result_index (i : Cert.KernelIdeal.S2x512x16384.Idx) :
    i = ValueIdx.ix3 (i 0) (row64 ⟨(i 1).val / 64, Nat.div_lt_of_lt_mul (i 1).isLt⟩ ⟨(i 1).val % 64, Nat.mod_lt _ (by decide)⟩) (i 2) := by
  funext a
  match a with
  | ⟨0, _⟩ => rfl
  | ⟨1, _⟩ => exact Fin.ext (Nat.div_add_mod (i 1).val 64).symm
  | ⟨2, _⟩ => rfl

section
variable (m : (ℓ : Loc Cert.KernelIdeal.nD Cert.KernelIdeal.τ Cert.KernelIdeal.sig) → Buf (Elt Ideal) ℓ) (c : Dev Cert.KernelIdeal.nD)

/-- The reference's result on the kernel's arguments. -/
def referenceOf : Cert.KernelIdeal.S2x512x16384.Idx → EReal :=
  Cert.ReferenceIdeal.Read.val_main_v29 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))

theorem referenceOf_apply (b : Fin 2) (h : Fin 8) (d : Fin 64) (q : Fin 16384) :
    referenceOf m c (ValueIdx.ix3 b (row64 h d) q)
      = attention (qNope m c) (qRope m c) (kNope m c) (kRope m c) (value m c) b h d q :=
  Cert.Reference.result_apply (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) b h d q

/-- On finite queries and keys the two programs compute the same attention. -/
theorem results_agree (hp : Cert.Pre_KernelIdeal_finite (hPre_finite := finite_facts) m) :
    referenceOf m c = (Cert.KernelIdeal.Value.G3 m c : Cert.KernelIdeal.S2x512x16384.Idx → EReal) := by
  obtain ⟨h0, h1, h2, h3⟩ := finite_entries (hf := finite_facts) m c hp
  have e : ∀ b h d q, referenceOf m c (ValueIdx.ix3 b (row64 h d) q)
      = (Cert.KernelIdeal.Value.G3 m c : Cert.KernelIdeal.S2x512x16384.Idx → EReal) (ValueIdx.ix3 b (row64 h d) q) := fun b h d q =>
    (referenceOf_apply m c b h d q).trans (kernel_apply m c b h d q (weights_ne_zero h0 h1 h2 h3 b h q)).symm
  generalize referenceOf m c = x at e
  generalize (Cert.KernelIdeal.Value.G3 m c : Cert.KernelIdeal.S2x512x16384.Idx → EReal) = y at e
  funext i
  rw [result_index i]
  exact e _ _ _ _
end

/-- The kernel and the reference end with the same result. -/
theorem same_result : algebraic_KernelIdeal_ReferenceIdeal_pre_finite (hKernelIdeal := Cert.KernelIdeal.Gen.facts)
    (hReferenceIdeal := Cert.ReferenceIdeal.Gen.facts) (hPre_finite := finite_facts) := by
  intro m g m' g' hp ha
  refine ⟨fun c => Cert.KernelIdeal.Value.G3 m c, Cert.KernelIdeal.Value.run m g, ?_⟩
  refine (θ_run Cert.ReferenceIdeal.defs _ _).mono (fun r h c => ⟨(h c).1.trans ?_, (h c).2⟩) (Cert.ReferenceIdeal.Value.run m' g')
  obtain ⟨e0, e1, e2, e3, e4⟩ := ha c
  rw [Cert.ReferenceIdeal.Read.val_main_v29_eq, e0, e1, e2, e3, e4]
  exact results_agree m c hp

/-! ## The feed-forward kernel -/

/-- Its reference too is a sequence of host operations. -/
theorem reference2_frame : quiescent_Reference2Ideal (hReference2Ideal := Cert.Reference2Ideal.Gen.facts) := by
  intro m g _
  hlo_run
  · exact fun _ => ⟨trivial, trivial, trivial, trivial, trivial, trivial, trivial, trivial, trivial, trivial⟩
  · exact sem_eq_zero_of_no_sems (sig := Cert.Reference2Ideal.sig) (by decide) _

section
variable (m : (ℓ : Loc Cert.Kernel2Ideal.nD Cert.Kernel2Ideal.τ Cert.Kernel2Ideal.sig) → Buf (Elt Ideal) ℓ) (c : Dev Cert.Kernel2Ideal.nD)

/-- The reference's result on the kernel's arguments. -/
def reference2Of : Cert.Kernel2Ideal.S2x16384x1024.Idx → EReal :=
  Cert.Reference2Ideal.Read.val_main_v69 (F := Ideal) (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7))
    (m ((c.tc : Thread Cert.Kernel2Ideal.nD Cert.Kernel2Ideal.τ).loc Cert.Kernel2Ideal.main_arg8))
    (m ((c.tc : Thread Cert.Kernel2Ideal.nD Cert.Kernel2Ideal.τ).loc Cert.Kernel2Ideal.main_arg9))

theorem reference2Of_apply (s : Fin 2) (q : Fin 16384) (d : Fin 1024) :
    reference2Of m c (ValueIdx.ix3 s q d)
      = Cert.Ffn.feedForward (Cert.Ffn.argX m c) (Cert.Ffn.argScale m c) (Cert.Ffn.argShift m c) (Cert.Ffn.argGate m c) (Cert.Ffn.argUp m c)
        (Cert.Ffn.argTaps m c) (Cert.Ffn.argBias m c) (Cert.Ffn.argDown m c) (Cert.Ffn.argGain m c) (Cert.Ffn.argOffset m c) s q d :=
  Cert.FfnReference.result_apply (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7))
    (m ((c.tc : Thread Cert.Kernel2Ideal.nD Cert.Kernel2Ideal.τ).loc Cert.Kernel2Ideal.main_arg8))
    (m ((c.tc : Thread Cert.Kernel2Ideal.nD Cert.Kernel2Ideal.τ).loc Cert.Kernel2Ideal.main_arg9)) s q d

/-- The two programs compute the same. -/
theorem results2_agree : reference2Of m c = (Cert.Kernel2Ideal.Value.G10 m c : Cert.Kernel2Ideal.S2x16384x1024.Idx → EReal) := by
  have e : ∀ s q d, reference2Of m c (ValueIdx.ix3 s q d)
      = (Cert.Kernel2Ideal.Value.G10 m c : Cert.Kernel2Ideal.S2x16384x1024.Idx → EReal) (ValueIdx.ix3 s q d) := fun s q d =>
    (reference2Of_apply m c s q d).trans (Cert.Ffn.kernel_apply m c s q d).symm
  generalize reference2Of m c = x at e
  generalize (Cert.Kernel2Ideal.Value.G10 m c : Cert.Kernel2Ideal.S2x16384x1024.Idx → EReal) = y at e
  funext i
  rw [show i = ValueIdx.ix3 (i 0) (i 1) (i 2) from funext fun a => by match a with | ⟨0, _⟩ => rfl | ⟨1, _⟩ => rfl | ⟨2, _⟩ => rfl]
  exact e _ _ _
end

/-- The feed-forward kernel and its reference end with the same result. -/
theorem same_result2 : algebraic_Kernel2Ideal_Reference2Ideal (hKernel2Ideal := Cert.Kernel2Ideal.Gen.facts)
    (hReference2Ideal := Cert.Reference2Ideal.Gen.facts) := by
  intro m g m' g' hp ha
  refine ⟨fun c => Cert.Kernel2Ideal.Value.G10 m c, Cert.Kernel2Ideal.Value.run m g, ?_⟩
  refine (θ_run Cert.Reference2Ideal.defs _ _).mono (fun r h c => ⟨(h c).1.trans ?_, (h c).2⟩) (Cert.Reference2Ideal.Value.run m' g')
  obtain ⟨e0, e1, e2, e3, e4, e5, e6, e7, e8, e9⟩ := ha c
  rw [Cert.Reference2Ideal.Read.val_main_v69_eq, e0, e1, e2, e3, e4, e5, e6, e7, e8, e9]
  exact results2_agree m c

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, finite_facts,
  fun m g _ => Cert.Kernel.Gen.frame m g, fun m g _ => Cert.KernelIdeal.Gen.frame m g, fun m g _ => Cert.KernelIdeal.Gen.frame m g,
  reference_frame, fun m g _ => reference_frame m g trivial, fun m g _ => Cert.Kernel2.Gen.frame m g, fun m g _ => Cert.Kernel2Ideal.Gen.frame m g,
  reference2_frame, mask_named, same_result, trivial, same_result2⟩

end Cert.Proof

end
